-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_finite [hPre_uniform_finite : Cert.Pre_uniform_finite.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_finite [hPre_uniform_finite : Cert.Pre_uniform_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_uniform_finite [hKernelIdeal : Cert.KernelIdeal.Facts] [hPre_uniform_finite : Cert.Pre_uniform_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_uniform_finite [hReferenceIdeal : Cert.ReferenceIdeal.Facts] [hPre_uniform_finite : Cert.Pre_uniform_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_uniform_finite [hKernelIdeal : Cert.KernelIdeal.Facts] [hReferenceIdeal : Cert.ReferenceIdeal.Facts] [hPre_uniform_finite : Cert.Pre_uniform_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_uniform_finite : Cert.Pre_uniform_finite.Facts),
    quiescent_Kernel (hKernel := hKernel)
    ∧ quiescent_KernelIdeal (hKernelIdeal := hKernelIdeal)
    ∧ quiescent_KernelIdeal_pre_uniform_finite (hKernelIdeal := hKernelIdeal) (hPre_uniform_finite := hPre_uniform_finite)
    ∧ quiescent_ReferenceIdeal (hReferenceIdeal := hReferenceIdeal)
    ∧ quiescent_ReferenceIdeal_pre_uniform_finite (hReferenceIdeal := hReferenceIdeal) (hPre_uniform_finite := hPre_uniform_finite)
    ∧ preserves_Kernel_KernelIdeal
    ∧ algebraic_KernelIdeal_ReferenceIdeal_pre_uniform_finite (hKernelIdeal := hKernelIdeal) (hReferenceIdeal := hReferenceIdeal) (hPre_uniform_finite := hPre_uniform_finite)
-- ==== Pre_uniform_finite.lean ====
abbrev S256x5x2048 : Shape := ⟨3, ![256, 5, 2048]⟩
abbrev S256 : Shape := ⟨1, ![256]⟩
abbrev S1000x5x2048 : Shape := ⟨3, ![1000, 5, 2048]⟩
abbrev S5x5 : Shape := ⟨2, ![5, 5]⟩
abbrev S2048x1024 : Shape := ⟨2, ![2048, 1024]⟩
abbrev S1024x2048 : Shape := ⟨2, ![1024, 2048]⟩
abbrev S10240x2048 : Shape := ⟨2, ![10240, 2048]⟩
abbrev S2048 : Shape := ⟨1, ![2048]⟩
abbrev S2048x1000 : Shape := ⟨2, ![2048, 1000]⟩
abbrev S1000 : Shape := ⟨1, ![1000]⟩
abbrev S_ : Shape := ⟨0, ![]⟩
abbrev S1x5 : Shape := ⟨2, ![1, 5]⟩

class Facts : Prop where
  bcast_S_S256 : S_.BroadcastsInDim S256 (![] : Fin 0 → Fin S256.rank)
  slices_S5x5_S1x5_0_0 : S5x5.Slices ![0, 0] S1x5
  bcast_S1x5_S5x5_0_1 : S1x5.BroadcastsInDim S5x5 (![0, 1] : Fin 2 → Fin S5x5.rank)
  bcast_S_S5x5 : S_.BroadcastsInDim S5x5 (![] : Fin 0 → Fin S5x5.rank)
  bcast_S_S256x5x2048 : S_.BroadcastsInDim S256x5x2048 (![] : Fin 0 → Fin S256x5x2048.rank)
  bcast_S_S2048x1024 : S_.BroadcastsInDim S2048x1024 (![] : Fin 0 → Fin S2048x1024.rank)
  bcast_S_S1024x2048 : S_.BroadcastsInDim S1024x2048 (![] : Fin 0 → Fin S1024x2048.rank)
  bcast_S_S10240x2048 : S_.BroadcastsInDim S10240x2048 (![] : Fin 0 → Fin S10240x2048.rank)

variable [Facts]

def fn_part1 {F : FTy → Type} [FloatOps F] (main_v1 : IVec S256 1) (main_v4 : IVec S5x5 1) (main_v7 : IVec S5x5 1) (main_v10 : IVec S256x5x2048 1) (main_v13 : IVec S2048x1024 1) (main_v16 : IVec S1024x2048 1) (main_v17 : FVec F S10240x2048 .f32) (main_cst_3 : FVec F S_ .f32) : IVec S256 1 × IVec S5x5 1 × IVec S5x5 1 × IVec S256x5x2048 1 × IVec S2048x1024 1 × IVec S1024x2048 1 × IVec S10240x2048 1 :=
  let main_v18 : FVec F S10240x2048 .f32 := broadcastInDim S10240x2048 ![] bcast_S_S10240x2048 main_cst_3
  let main_v19 : IVec S10240x2048 1 := cmpf .olt main_v17 main_v18
  (main_v1, main_v4, main_v7, main_v10, main_v13, main_v16, main_v19)

def fn {F : FTy → Type} [FloatOps F] (main_arg0 : FVec F S256x5x2048 .f32) (main_arg1 : IVec S256 32) (main_arg2 : FVec F S1000x5x2048 .f32) (main_arg3 : FVec F S5x5 .f32) (main_arg4 : FVec F S2048x1024 .f32) (main_arg5 : FVec F S1024x2048 .f32) (main_arg6 : FVec F S10240x2048 .f32) (main_arg7 : FVec F S2048 .f32) (main_arg8 : FVec F S2048x1000 .f32) (main_arg9 : FVec F S1000 .f32) : IVec S256 1 × IVec S5x5 1 × IVec S5x5 1 × IVec S256x5x2048 1 × IVec S2048x1024 1 × IVec S1024x2048 1 × IVec S10240x2048 1 :=
  let main_c : IVec S_ 32 := constantI S_ 32 0#32
  let main_v0 : IVec S256 32 := broadcastInDim S256 ![] bcast_S_S256 main_c
  let main_v1 : IVec S256 1 := cmpi .sge main_arg1 main_v0
  let main_v2 : FVec F S1x5 .f32 := (extractStridedSlice S1x5 ![0, 0] · slices_S5x5_S1x5_0_0) main_arg3
  let main_v3 : FVec F S5x5 .f32 := broadcastInDim S5x5 ![0, 1] bcast_S1x5_S5x5_0_1 main_v2
  let main_v4 : IVec S5x5 1 := cmpf .oeq main_arg3 main_v3
  let main_v5 : FVec F S5x5 .f32 := Host.absf main_arg3
  let main_cst : FVec F S_ .f32 := constant S_ .f32 0x7F800000#32
  let main_v6 : FVec F S5x5 .f32 := broadcastInDim S5x5 ![] bcast_S_S5x5 main_cst
  let main_v7 : IVec S5x5 1 := cmpf .olt main_v5 main_v6
  let main_v8 : FVec F S256x5x2048 .f32 := Host.absf main_arg0
  let main_cst_0 : FVec F S_ .f32 := constant S_ .f32 0x7F800000#32
  let main_v9 : FVec F S256x5x2048 .f32 := broadcastInDim S256x5x2048 ![] bcast_S_S256x5x2048 main_cst_0
  let main_v10 : IVec S256x5x2048 1 := cmpf .olt main_v8 main_v9
  let main_v11 : FVec F S2048x1024 .f32 := Host.absf main_arg4
  let main_cst_1 : FVec F S_ .f32 := constant S_ .f32 0x7F800000#32
  let main_v12 : FVec F S2048x1024 .f32 := broadcastInDim S2048x1024 ![] bcast_S_S2048x1024 main_cst_1
  let main_v13 : IVec S2048x1024 1 := cmpf .olt main_v11 main_v12
  let main_v14 : FVec F S1024x2048 .f32 := Host.absf main_arg5
  let main_cst_2 : FVec F S_ .f32 := constant S_ .f32 0x7F800000#32
  let main_v15 : FVec F S1024x2048 .f32 := broadcastInDim S1024x2048 ![] bcast_S_S1024x2048 main_cst_2
  let main_v16 : IVec S1024x2048 1 := cmpf .olt main_v14 main_v15
  let main_v17 : FVec F S10240x2048 .f32 := Host.absf main_arg6
  let main_cst_3 : FVec F S_ .f32 := constant S_ .f32 0x7F800000#32
  fn_part1 (F := F) main_v1 main_v4 main_v7 main_v10 main_v13 main_v16 main_v17 main_cst_3
-- ==== Kernel.lean ====
abbrev S256x5x2048 : Shape := ⟨3, ![256, 5, 2048]⟩
abbrev S256 : Shape := ⟨1, ![256]⟩
abbrev S1000x5x2048 : Shape := ⟨3, ![1000, 5, 2048]⟩
abbrev S5x5 : Shape := ⟨2, ![5, 5]⟩
abbrev S2048x1024 : Shape := ⟨2, ![2048, 1024]⟩
abbrev S1024x2048 : Shape := ⟨2, ![1024, 2048]⟩
abbrev S10240x2048 : Shape := ⟨2, ![10240, 2048]⟩
abbrev S2048 : Shape := ⟨1, ![2048]⟩
abbrev S2048x1000 : Shape := ⟨2, ![2048, 1000]⟩
abbrev S1000 : Shape := ⟨1, ![1000]⟩
abbrev S5x256x2048 : Shape := ⟨3, ![5, 256, 2048]⟩
abbrev S5x1000x2048 : Shape := ⟨3, ![5, 1000, 2048]⟩
abbrev S1000x2048 : Shape := ⟨2, ![1000, 2048]⟩
abbrev S1x256 : Shape := ⟨2, ![1, 256]⟩
abbrev S5x2048x2048 : Shape := ⟨3, ![5, 2048, 2048]⟩
abbrev S256x2048 : Shape := ⟨2, ![256, 2048]⟩
abbrev S5x128x2048 : Shape := ⟨3, ![5, 128, 2048]⟩
abbrev S1x1 : Shape := ⟨2, ![1, 1]⟩
abbrev S1x256x2048 : Shape := ⟨3, ![1, 256, 2048]⟩
abbrev S256x1 : Shape := ⟨2, ![256, 1]⟩
abbrev S256x256 : Shape := ⟨2, ![256, 256]⟩
abbrev S128x256 : Shape := ⟨2, ![128, 256]⟩
abbrev S128 : Shape := ⟨1, ![128]⟩
abbrev S128x1 : Shape := ⟨2, ![128, 1]⟩
abbrev S128x2048 : Shape := ⟨2, ![128, 2048]⟩
abbrev S1x128x2048 : Shape := ⟨3, ![1, 128, 2048]⟩
abbrev S1x2048 : Shape := ⟨2, ![1, 2048]⟩
abbrev S1x1000 : Shape := ⟨2, ![1, 1000]⟩
abbrev S1000x256 : Shape := ⟨2, ![1000, 256]⟩
abbrev S1024x256 : Shape := ⟨2, ![1024, 256]⟩
abbrev S256x1024 : Shape := ⟨2, ![256, 1024]⟩
abbrev S1x5 : Shape := ⟨2, ![1, 5]⟩
abbrev S5 : Shape := ⟨1, ![5]⟩
abbrev S1 : Shape := ⟨1, ![1]⟩
abbrev S1000x1 : Shape := ⟨2, ![1000, 1]⟩
abbrev S256x1000 : Shape := ⟨2, ![256, 1000]⟩

abbrev nBuf : Space → Nat
  | .hbm => 22
  | .vmem => 23
  | .smem => 0
  | _ => 0

abbrev bufTy : (tb : Table) → Fin (tcTables nBuf tb) → BufTy
  | .hbm, ⟨0, _⟩ => ⟨S256x5x2048, .f32⟩
  | .hbm, ⟨1, _⟩ => ⟨S256, .i32⟩
  | .hbm, ⟨2, _⟩ => ⟨S1000x5x2048, .f32⟩
  | .hbm, ⟨3, _⟩ => ⟨S5x5, .f32⟩
  | .hbm, ⟨4, _⟩ => ⟨S2048x1024, .f32⟩
  | .hbm, ⟨5, _⟩ => ⟨S1024x2048, .f32⟩
  | .hbm, ⟨6, _⟩ => ⟨S10240x2048, .f32⟩
  | .hbm, ⟨7, _⟩ => ⟨S2048, .f32⟩
  | .hbm, ⟨8, _⟩ => ⟨S2048x1000, .f32⟩
  | .hbm, ⟨9, _⟩ => ⟨S1000, .f32⟩
  | .hbm, ⟨10, _⟩ => ⟨S5x256x2048, .f32⟩
  | .hbm, ⟨11, _⟩ => ⟨S5x1000x2048, .f32⟩
  | .hbm, ⟨12, _⟩ => ⟨S1000x2048, .f32⟩
  | .hbm, ⟨13, _⟩ => ⟨S1x256, .i32⟩
  | .hbm, ⟨14, _⟩ => ⟨S5x2048x2048, .f32⟩
  | .hbm, ⟨15, _⟩ => ⟨S5x1000x2048, .f32⟩
  | .hbm, ⟨16, _⟩ => ⟨S256x2048, .f32⟩
  | .hbm, ⟨17, _⟩ => ⟨S1x2048, .f32⟩
  | .hbm, ⟨18, _⟩ => ⟨S1x1000, .f32⟩
  | .hbm, ⟨19, _⟩ => ⟨S1000x256, .f32⟩
  | .hbm, ⟨20, _⟩ => ⟨S256x1000, .f32⟩
  | .hbm, ⟨21, _⟩ => ⟨S1000x5x2048, .f32⟩
  | .local _ .vmem, ⟨0, _⟩ => ⟨S1x256, .i32⟩
  | .local _ .vmem, ⟨1, _⟩ => ⟨S5x5, .f32⟩
  | .local _ .vmem, ⟨2, _⟩ => ⟨S5x256x2048, .f32⟩
  | .local _ .vmem, ⟨3, _⟩ => ⟨S5x128x2048, .f32⟩
  | .local _ .vmem, ⟨4, _⟩ => ⟨S5x128x2048, .f32⟩
  | .local _ .vmem, ⟨5, _⟩ => ⟨S5x128x2048, .f32⟩
  | .local _ .vmem, ⟨6, _⟩ => ⟨S5x128x2048, .f32⟩
  | .local _ .vmem, ⟨7, _⟩ => ⟨S256x2048, .f32⟩
  | .local _ .vmem, ⟨8, _⟩ => ⟨S5x5, .f32⟩
  | .local _ .vmem, ⟨9, _⟩ => ⟨S256x2048, .f32⟩
  | .local _ .vmem, ⟨10, _⟩ => ⟨S2048x1024, .f32⟩
  | .local _ .vmem, ⟨11, _⟩ => ⟨S1024x256, .f32⟩
  | .local _ .vmem, ⟨12, _⟩ => ⟨S1024x256, .f32⟩
  | .local _ .vmem, ⟨13, _⟩ => ⟨S5x256x2048, .f32⟩
  | .local _ .vmem, ⟨14, _⟩ => ⟨S5x256x2048, .f32⟩
  | .local _ .vmem, ⟨15, _⟩ => ⟨S1x2048, .f32⟩
  | .local _ .vmem, ⟨16, _⟩ => ⟨S1000x256, .f32⟩
  | .local _ .vmem, ⟨17, _⟩ => ⟨S1000x256, .f32⟩
  | .local _ .vmem, ⟨18, _⟩ => ⟨S1x1000, .f32⟩
  | .local _ .vmem, ⟨19, _⟩ => ⟨S1000x256, .f32⟩
  | .local _ .vmem, ⟨20, _⟩ => ⟨S256x1024, .f32⟩
  | .local _ .vmem, ⟨21, _⟩ => ⟨S256x2048, .f32⟩
  | .local _ .vmem, ⟨22, _⟩ => ⟨S1000x2048, .f32⟩
  | _, _ => ⟨S256x5x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem8_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![9], ![false]⟩

def k1_cond2 (i : grid1.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k1_off1 (i : grid1.Coords) : Fin 2 → Nat :=
  let c0_18 : Index := 0#32
  let arg0 : BitVec 32 := BitVec.ofNat 32 (i 0).val
  let c256_i32 : BitVec 32 := 256#32
  let v9 : BitVec 32 := Scalar.muli arg0 c256_i32
  let v24 : Index := Scalar.indexCast v9
  ![0, v24.toNat]
def k1_cond3 (i : grid1.Coords) : BitVec 1 :=
  let arg0 : BitVec 32 := BitVec.ofNat 32 (i 0).val
  let c8_i32_2 : BitVec 32 := 8#32
  let v6 : BitVec 1 := Scalar.cmpi .eq arg0 c8_i32_2
  let v7 : BitVec 32 := Scalar.extui v6
  let c0_i32_3 : BitVec 32 := 0#32
  let v8 : BitVec 1 := Scalar.cmpi .ne v7 c0_i32_3
  v8

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_4 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S5x5 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1000x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S256x5x2048 : Shape := ⟨3, ![256, 5, 2048]⟩
abbrev S256 : Shape := ⟨1, ![256]⟩
abbrev S1000x5x2048 : Shape := ⟨3, ![1000, 5, 2048]⟩
abbrev S5x5 : Shape := ⟨2, ![5, 5]⟩
abbrev S2048x1024 : Shape := ⟨2, ![2048, 1024]⟩
abbrev S1024x2048 : Shape := ⟨2, ![1024, 2048]⟩
abbrev S10240x2048 : Shape := ⟨2, ![10240, 2048]⟩
abbrev S2048 : Shape := ⟨1, ![2048]⟩
abbrev S2048x1000 : Shape := ⟨2, ![2048, 1000]⟩
abbrev S1000 : Shape := ⟨1, ![1000]⟩
abbrev S1024x256x5 : Shape := ⟨3, ![1024, 256, 5]⟩
abbrev S256x5x1024 : Shape := ⟨3, ![256, 5, 1024]⟩
abbrev S_ : Shape := ⟨0, ![]⟩
abbrev S256x1024x5 : Shape := ⟨3, ![256, 1024, 5]⟩
abbrev S256x10240 : Shape := ⟨2, ![256, 10240]⟩
abbrev S256x2048 : Shape := ⟨2, ![256, 2048]⟩
abbrev S1x2048 : Shape := ⟨2, ![1, 2048]⟩
abbrev S256x1000 : Shape := ⟨2, ![256, 1000]⟩
abbrev S1x1000 : Shape := ⟨2, ![1, 1000]⟩
abbrev S1x5x2048 : Shape := ⟨3, ![1, 5, 2048]⟩
abbrev S5x2048 : Shape := ⟨2, ![5, 2048]⟩
abbrev S1 : Shape := ⟨1, ![1]⟩
abbrev S1000x2048 : Shape := ⟨2, ![1000, 2048]⟩
abbrev S1000x1x2048 : Shape := ⟨3, ![1000, 1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S256x5x2048, .f32⟩
  | .hbm, ⟨1, _⟩ => ⟨S256, .i32⟩
  | .hbm, ⟨2, _⟩ => ⟨S1000x5x2048, .f32⟩
  | .hbm, ⟨3, _⟩ => ⟨S5x5, .f32⟩
  | .hbm, ⟨4, _⟩ => ⟨S2048x1024, .f32⟩
  | .hbm, ⟨5, _⟩ => ⟨S1024x2048, .f32⟩
  | .hbm, ⟨6, _⟩ => ⟨S10240x2048, .f32⟩
  | .hbm, ⟨7, _⟩ => ⟨S2048, .f32⟩
  | .hbm, ⟨8, _⟩ => ⟨S2048x1000, .f32⟩
  | .hbm, ⟨9, _⟩ => ⟨S1000, .f32⟩
  | .hbm, ⟨10, _⟩ => ⟨S1024x256x5, .f32⟩
  | .hbm, ⟨11, _⟩ => ⟨S1024x256x5, .f32⟩
  | .hbm, ⟨12, _⟩ => ⟨S256x5x1024, .f32⟩
  | .hbm, ⟨13, _⟩ => ⟨S_, .f32⟩
  | .hbm, ⟨14, _⟩ => ⟨S256x5x1024, .f32⟩
  | .hbm, ⟨15, _⟩ => ⟨S256x5x1024, .f32⟩
  | .hbm, ⟨16, _⟩ => ⟨S256x1024x5, .f32⟩
  | .hbm, ⟨17, _⟩ => ⟨S256x5x2048, .f32⟩
  | .hbm, ⟨18, _⟩ => ⟨S256x10240, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x1000, .f32⟩
  | .hbm, ⟨24, _⟩ => ⟨S1x1000, .f32⟩
  | .hbm, ⟨25, _⟩ => ⟨S256x1000, .f32⟩
  | .hbm, ⟨26, _⟩ => ⟨S256x1000, .f32⟩
  | .hbm, ⟨27, _⟩ => ⟨S_, .i32⟩
  | .hbm, ⟨28, _⟩ => ⟨S256x5x2048, .f32⟩
  | .hbm, ⟨29, _⟩ => ⟨S256, .i32⟩
  | .hbm, ⟨30, _⟩ => ⟨S_, .i32⟩
  | .hbm, ⟨31, _⟩ => ⟨S1000x5x2048, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x5x2048, .f32⟩
  | .hbm, ⟨37, _⟩ => ⟨S5x2048, .f32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x5x2048, .f32⟩
  | .hbm, ⟨62, _⟩ => ⟨S5x2048, .f32⟩
  | .hbm, ⟨63, _⟩ => ⟨S_, .f32⟩
  | .hbm, ⟨64, _⟩ => ⟨S5x2048, .f32⟩
  | .hbm, ⟨65, _⟩ => ⟨S5x2048, .f32⟩
  | .hbm, ⟨66, _⟩ => ⟨S_, .f32⟩
  | .hbm, ⟨67, _⟩ => ⟨S5x2048, .f32⟩
  | .hbm, ⟨68, _⟩ => ⟨S5x2048, .f32⟩
  | .hbm, ⟨69, _⟩ => ⟨S5x2048, .f32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1, .i32⟩
  | .hbm, ⟨76, _⟩ => ⟨S1000x5x2048, .f32⟩
  | .hbm, ⟨77, _⟩ => ⟨S_, .i32⟩
  | .hbm, ⟨78, _⟩ => ⟨S_, .i32⟩
  | .hbm, ⟨79, _⟩ => ⟨S1000x5x2048, .f32⟩
  | .hbm, ⟨80, _⟩ => ⟨S_, .f32⟩
  | .hbm, ⟨81, _⟩ => ⟨S1000x2048, .f32⟩
  | .hbm, ⟨82, _⟩ => ⟨S1000x1x2048, .f32⟩
  | .hbm, ⟨83, _⟩ => ⟨S1000x1x2048, .f32⟩
  | .hbm, ⟨84, _⟩ => ⟨S_, .f32⟩
  | .hbm, ⟨85, _⟩ => ⟨S1000x1x2048, .f32⟩
  | .hbm, ⟨86, _⟩ => ⟨S1000x1x2048, .f32⟩
  | .hbm, ⟨87, _⟩ => ⟨S1000x5x2048, .f32⟩
  | .hbm, ⟨88, _⟩ => ⟨S1000x5x2048, .f32⟩
  | _, _ => ⟨S256x5x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_cst : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_while0c_c_4 : Ref sig .tc := ⟨.hbm, 32, rfl⟩
abbrev main_while0c_v24 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v24 : Ref sig .tc := ⟨.hbm, 37, rfl⟩
abbrev main_while0b_call2_v0 : Ref sig .tc := ⟨.hbm, 38, rfl⟩
abbrev main_while0b_v25 : Ref sig .tc := ⟨.hbm, 39, rfl⟩
abbrev main_while0b_c_4 : Ref sig .tc := ⟨.hbm, 40, rfl⟩
abbrev main_while0b_v26 : Ref sig .tc := ⟨.hbm, 41, rfl⟩
abbrev main_while0b_c_5 : Ref sig .tc := ⟨.hbm, 42, rfl⟩
abbrev main_while0b_v27 : Ref sig .tc := ⟨.hbm, 43, rfl⟩
abbrev main_while0b_v28 : Ref sig .tc := ⟨.hbm, 44, rfl⟩
abbrev main_while0b_c_6 : Ref sig .tc := ⟨.hbm, 45, rfl⟩
abbrev main_while0b_c_7 : Ref sig .tc := ⟨.hbm, 46, rfl⟩
abbrev main_while0b_v29 : Ref sig .tc := ⟨.hbm, 47, rfl⟩
abbrev main_while0b_c_8 : Ref sig .tc := ⟨.hbm, 48, rfl⟩
abbrev main_while0b_c_9 : Ref sig .tc := ⟨.hbm, 49, rfl⟩
abbrev main_while0b_v30 : Ref sig .tc := ⟨.hbm, 50, rfl⟩
abbrev main_while0b_c_10 : Ref sig .tc := ⟨.hbm, 51, rfl⟩
abbrev main_while0b_v31 : Ref sig .tc := ⟨.hbm, 52, rfl⟩
abbrev main_while0b_c_11 : Ref sig .tc := ⟨.hbm, 53, rfl⟩
abbrev main_while0b_c_12 : Ref sig .tc := ⟨.hbm, 54, rfl⟩
abbrev main_while0b_v32 : Ref sig .tc := ⟨.hbm, 55, rfl⟩
abbrev main_while0b_c_13 : Ref sig .tc := ⟨.hbm, 56, rfl⟩
abbrev main_while0b_c_14 : Ref sig .tc := ⟨.hbm, 57, rfl⟩
abbrev main_while0b_v33 : Ref sig .tc := ⟨.hbm, 58, rfl⟩
abbrev main_while0b_c_15 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_cst_16 : Ref sig .tc := ⟨.hbm, 63, rfl⟩
abbrev main_while0b_v37 : Ref sig .tc := ⟨.hbm, 64, rfl⟩
abbrev main_while0b_v38 : Ref sig .tc := ⟨.hbm, 65, rfl⟩
abbrev main_while0b_cst_17 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_c_18 : Ref sig .tc := ⟨.hbm, 70, rfl⟩
abbrev main_while0b_v42 : Ref sig .tc := ⟨.hbm, 71, rfl⟩
abbrev main_while0b_c_19 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_c_20 : Ref sig .tc := ⟨.hbm, 77, rfl⟩
abbrev main_while0b_v47 : Ref sig .tc := ⟨.hbm, 78, rfl⟩
abbrev main_v16 : Ref sig .tc := ⟨.hbm, 79, rfl⟩
abbrev main_cst : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_cst_0 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩

abbrev nD : Nat := 1
abbrev τ : Topo := Topo.v7x

variable {F : FTy → Type} [FloatOps F]

abbrev main_while0_count : Scf.Loop 32 := ⟨0#32, 256#32, 1#32⟩
-- ==== Proof.KI.EmaBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx

@[expose] public section

set_option maxRecDepth 16384

noncomputable section

namespace Cert.KernelIdeal.Ema

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- A load of a whole buffer is what the buffer holds. -/
theorem readAt_unread {sp : Space} {s : Shape} {e : EltTy} (m : Memref sig .tc sp s e) (h : m.IsWhole) (x : s.Idx → Elt F e)
    {off : Fin s.rank → ℕ} (inb : ∀ a, off a + s.size a ≤ s.size a) :
    m.view.readAt (Elt F) (Rect.unit off s.size inb).toLoadRect (h.unread x) = x := by
  rw [View.readAt_full, h.read_unread]

/-- A load of a window of a buffer is that window of what the buffer holds. -/
theorem readAt_unread_unit {sp : Space} {s : Shape} {e : EltTy} (m : Memref sig .tc sp s e) (h : m.IsWhole) (x : s.Idx → Elt F e)
    {off size : Fin s.rank → ℕ} (inb : ∀ a, off a + size a ≤ s.size a) :
    m.view.readAt (Elt F) (Rect.unit off size inb).toLoadRect (h.unread x) = VecWindow.window x off size inb := by
  rw [View.readAt_unit _ _ _ rfl inb, h.read_unread]

/-! ## The values of one grid point -/

/-- Slice 0 of the features. -/
abbrev sx0 (x2 : Vec F S5x256x2048 .f32) : Vec F S1x256x2048 .f32 := VecWindow.window x2 ![0, 0, 0] S1x256x2048.size inb_S5x256x2048_S1x256x2048_0_0_0
/-- Slice 0 of the block of prototypes. -/
abbrev px0 (x3 : Vec F S5x128x2048 .f32) : Vec F S1x128x2048 .f32 := VecWindow.window x3 ![0, 0, 0] S1x128x2048.size inb_S5x128x2048_S1x128x2048_0_0_0
/-- Slice 1 of the features. -/
abbrev sx1 (x2 : Vec F S5x256x2048 .f32) : Vec F S1x256x2048 .f32 := VecWindow.window x2 ![1, 0, 0] S1x256x2048.size inb_S5x256x2048_S1x256x2048_1_0_0
/-- Slice 1 of the block of prototypes. -/
abbrev px1 (x3 : Vec F S5x128x2048 .f32) : Vec F S1x128x2048 .f32 := VecWindow.window x3 ![1, 0, 0] S1x128x2048.size inb_S5x128x2048_S1x128x2048_1_0_0
/-- Slice 2 of the features. -/
abbrev sx2 (x2 : Vec F S5x256x2048 .f32) : Vec F S1x256x2048 .f32 := VecWindow.window x2 ![2, 0, 0] S1x256x2048.size inb_S5x256x2048_S1x256x2048_2_0_0
/-- Slice 2 of the block of prototypes. -/
abbrev px2 (x3 : Vec F S5x128x2048 .f32) : Vec F S1x128x2048 .f32 := VecWindow.window x3 ![2, 0, 0] S1x128x2048.size inb_S5x128x2048_S1x128x2048_2_0_0
/-- Slice 3 of the features. -/
abbrev sx3 (x2 : Vec F S5x256x2048 .f32) : Vec F S1x256x2048 .f32 := VecWindow.window x2 ![3, 0, 0] S1x256x2048.size inb_S5x256x2048_S1x256x2048_3_0_0
/-- Slice 3 of the block of prototypes. -/
abbrev px3 (x3 : Vec F S5x128x2048 .f32) : Vec F S1x128x2048 .f32 := VecWindow.window x3 ![3, 0, 0] S1x128x2048.size inb_S5x128x2048_S1x128x2048_3_0_0
/-- Slice 4 of the features. -/
abbrev sx4 (x2 : Vec F S5x256x2048 .f32) : Vec F S1x256x2048 .f32 := VecWindow.window x2 ![4, 0, 0] S1x256x2048.size inb_S5x256x2048_S1x256x2048_4_0_0
/-- Slice 4 of the block of prototypes. -/
abbrev px4 (x3 : Vec F S5x128x2048 .f32) : Vec F S1x128x2048 .f32 := VecWindow.window x3 ![4, 0, 0] S1x128x2048.size inb_S5x128x2048_S1x128x2048_4_0_0
/-- The features' first slice, aggregated over the graph's first row: the second result of the call. -/
abbrev xbar (x1 : Vec F S5x5 .f32) (x2 : Vec F S5x256x2048 .f32) : Vec F S256x2048 .f32 := k0_pay1 x1 (sx0 x2) (sx1 x2) (sx2 x2) (sx3 x2) (sx4 x2)
/-- The first four updated slices' sum of squares. -/
abbrev sq4 (i : grid0.Coords) (x0 : Vec F S1x256 .i32) (x2 : Vec F S5x256x2048 .f32) (x3 : Vec F S5x128x2048 .f32) : Vec F S128x2048 .f32 :=
  k0_pay11 (k0_pay4 i x0) (k0_pay5 i x0) (k0_pay6 i x0 (sx0 x2)) (px0 x3) (sx1 x2) (px1 x3) (sx2 x2) (px2 x3) (sx3 x2) (px3 x3)
/-- The five updated, normalised slices. -/
abbrev out0 (i : grid0.Coords) (x0 : Vec F S1x256 .i32) (x2 : Vec F S5x256x2048 .f32) (x3 : Vec F S5x128x2048 .f32) : Vec F S1x128x2048 .f32 :=
  k0_pay14 (k0_pay4 i x0) (k0_pay5 i x0) (k0_pay7 (k0_pay4 i x0) (k0_pay6 i x0 (sx0 x2)) (px0 x3)) (sq4 i x0 x2 x3) (sx4 x2) (px4 x3)
abbrev out1 (i : grid0.Coords) (x0 : Vec F S1x256 .i32) (x2 : Vec F S5x256x2048 .f32) (x3 : Vec F S5x128x2048 .f32) : Vec F S1x128x2048 .f32 :=
  k0_pay15 (k0_pay4 i x0) (k0_pay5 i x0) (k0_pay8 (k0_pay4 i x0) (k0_pay5 i x0) (sx1 x2) (px1 x3)) (sq4 i x0 x2 x3) (sx4 x2) (px4 x3)
abbrev out2 (i : grid0.Coords) (x0 : Vec F S1x256 .i32) (x2 : Vec F S5x256x2048 .f32) (x3 : Vec F S5x128x2048 .f32) : Vec F S1x128x2048 .f32 :=
  k0_pay16 (k0_pay4 i x0) (k0_pay5 i x0) (k0_pay9 (k0_pay4 i x0) (k0_pay5 i x0) (sx2 x2) (px2 x3)) (sq4 i x0 x2 x3) (sx4 x2) (px4 x3)
abbrev out3 (i : grid0.Coords) (x0 : Vec F S1x256 .i32) (x2 : Vec F S5x256x2048 .f32) (x3 : Vec F S5x128x2048 .f32) : Vec F S1x128x2048 .f32 :=
  k0_pay17 (k0_pay4 i x0) (k0_pay5 i x0) (k0_pay10 (k0_pay4 i x0) (k0_pay5 i x0) (sx3 x2) (px3 x3)) (sq4 i x0 x2 x3) (sx4 x2) (px4 x3)
abbrev out4 (i : grid0.Coords) (x0 : Vec F S1x256 .i32) (x2 : Vec F S5x256x2048 .f32) (x3 : Vec F S5x128x2048 .f32) : Vec F S1x128x2048 .f32 :=
  k0_pay18 (k0_pay4 i x0) (k0_pay5 i x0) (sq4 i x0 x2 x3) (sx4 x2) (px4 x3)
/-- The block of new prototypes, slice by slice. -/
def protoBlk (i : grid0.Coords) (x0 : Vec F S1x256 .i32) (x2 : Vec F S5x256x2048 .f32) (x3 : Vec F S5x128x2048 .f32) : Vec F S5x128x2048 .f32 := fun y =>
  (match y 0 with
    | ⟨0, _⟩ => out0 i x0 x2 x3
    | ⟨1, _⟩ => out1 i x0 x2 x3
    | ⟨2, _⟩ => out2 i x0 x2 x3
    | ⟨3, _⟩ => out3 i x0 x2 x3
    | ⟨4, _⟩ => out4 i x0 x2 x3
    | ⟨_ + 5, h⟩ => absurd h (Nat.not_lt.2 (Nat.le_add_left _ _))) (ValueIdx.ix3 (0 : Fin 1) (y 1) (y 2))

/-- A slice stored at its own position reads as what was stored. -/
theorem put_hit (x : Vec F S5x128x2048 .f32) (n : ℕ) (w : Vec F S1x128x2048 .f32) (y : S5x128x2048.Idx) (h : (y 0).val = n) :
    VecWindow.put x ![n, 0, 0] S1x128x2048.size w y = w (ValueIdx.ix3 (0 : Fin 1) (y 1) (y 2)) := by
  unfold VecWindow.put
  rw [dif_pos]
  · refine congrArg w (funext fun a => Fin.ext ?_)
    match a with
    | ⟨0, _⟩ => show (y 0).val - n = 0; omega
    | ⟨1, _⟩ => show (y 1).val - 0 = (y 1).val; omega
    | ⟨2, _⟩ => show (y 2).val - 0 = (y 2).val; omega
  · intro a
    match a with
    | ⟨0, _⟩ => show n ≤ (y 0).val ∧ (y 0).val < n + 1; omega
    | ⟨1, _⟩ => exact ⟨Nat.zero_le _, by have := (y 1).isLt; show (y 1).val < 0 + 128; simpa using this⟩
    | ⟨2, _⟩ => exact ⟨Nat.zero_le _, by have := (y 2).isLt; show (y 2).val < 0 + 2048; simpa using this⟩

/-- A stored slice leaves every other slice as it was. -/
theorem put_miss (x : Vec F S5x128x2048 .f32) (n : ℕ) (w : Vec F S1x128x2048 .f32) (y : S5x128x2048.Idx) (h : (y 0).val ≠ n) :
    VecWindow.put x ![n, 0, 0] S1x128x2048.size w y = x y := by
  unfold VecWindow.put
  rw [dif_neg]
  intro hall
  have := hall 0
  have e : (![n, 0, 0] : Fin 3 → ℕ) 0 = n := rfl
  have e' : S1x128x2048.size 0 = 1 := rfl
  have h0 : n ≤ (y 0).val ∧ (y 0).val < n + 1 := this
  omega

/-- The five stores of a point's body make the block, whatever the buffer held. -/
theorem puts_eq (i : grid0.Coords) (x0 : Vec F S1x256 .i32) (x2 : Vec F S5x256x2048 .f32) (x3 : Vec F S5x128x2048 .f32) (x4 : Vec F S5x128x2048 .f32) :
    VecWindow.put (VecWindow.put (VecWindow.put (VecWindow.put (VecWindow.put x4 ![0, 0, 0] S1x128x2048.size (out0 i x0 x2 x3))
      ![1, 0, 0] S1x128x2048.size (out1 i x0 x2 x3)) ![2, 0, 0] S1x128x2048.size (out2 i x0 x2 x3)) ![3, 0, 0] S1x128x2048.size (out3 i x0 x2 x3))
      ![4, 0, 0] S1x128x2048.size (out4 i x0 x2 x3) = protoBlk i x0 x2 x3 := by
  funext y
  unfold protoBlk
  rcases hy : y 0 with ⟨n, hn⟩
  have e : (y 0).val = n := by rw [hy]
  have hn' : n < 5 := hn
  interval_cases n
  · rw [put_miss _ _ _ _ (by omega), put_miss _ _ _ _ (by omega), put_miss _ _ _ _ (by omega), put_miss _ _ _ _ (by omega), put_hit _ _ _ _ e]
  · rw [put_miss _ _ _ _ (by omega), put_miss _ _ _ _ (by omega), put_miss _ _ _ _ (by omega), put_hit _ _ _ _ e]
  · rw [put_miss _ _ _ _ (by omega), put_miss _ _ _ _ (by omega), put_hit _ _ _ _ e]
  · rw [put_miss _ _ _ _ (by omega), put_hit _ _ _ _ e]
  · rw [put_hit _ _ _ _ e]

set_option maxHeartbeats 4000000 in
/-- The body at the first point: the aggregated features and a block of prototypes. -/
theorem bodyA (c : Dev nD) (i : grid0.Coords) (arg1 : Memref sig .tc .vmem S1x256 .i32) (harg1 : arg1.IsWhole) (arg2 : Memref sig .tc .vmem S5x5 .f32) (harg2 : arg2.IsWhole) (arg3 : Memref sig .tc .vmem S5x256x2048 .f32) (harg3 : arg3.IsWhole) (arg4 : Memref sig .tc .vmem S5x128x2048 .f32) (harg4 : arg4.IsWhole) (arg5 : Memref sig .tc .vmem S5x128x2048 .f32) (harg5 : arg5.IsWhole) (arg6 : Memref sig .tc .vmem S256x2048 .f32) (harg6 : arg6.IsWhole) (hc : k0_cond1 i = 1#1)
    (x0 : Vec F S1x256 .i32) (x1 : Vec F S5x5 .f32) (x2 : Vec F S5x256x2048 .f32) (x3 : Vec F S5x128x2048 .f32) (x4 : Vec F S5x128x2048 .f32) (x5 : Vec F S256x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (protoBlk i x0 x2 x3) ∗ owns (c : Thread nD τ) arg6 fullShare (xbar x1 x2)) -∗ K ⟨⟩))
      ⊢ wp frame (wpE (defs₀ (F := F)) Variants.none c none) E (cc0_proto_ema i arg1 harg1 arg2 harg2 arg3 harg3 arg4 harg4 arg5 harg5 arg6 harg6) K := by
  simp only [cc0_proto_ema_eq_skeleton]; unfold cc0_proto_ema_skel
  simp only [k0_part3_eq_skeleton]; unfold k0_part3_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.writes_nil, harg5.read_unread]
    repeat rw [readAt_unread]
    repeat rw [readAt_unread_unit]
    exact puts_eq i x0 x2 x3 x4
  iexists _; isplitr
  swap; · iexact H5
  ipureintro
  rw [View.read_writes_full]
  repeat rw [readAt_unread]
  repeat rw [readAt_unread_unit]

set_option maxHeartbeats 4000000 in
/-- The body at a later point: a block of prototypes. -/
theorem bodyB (c : Dev nD) (i : grid0.Coords) (arg1 : Memref sig .tc .vmem S1x256 .i32) (harg1 : arg1.IsWhole) (arg2 : Memref sig .tc .vmem S5x5 .f32) (harg2 : arg2.IsWhole) (arg3 : Memref sig .tc .vmem S5x256x2048 .f32) (harg3 : arg3.IsWhole) (arg4 : Memref sig .tc .vmem S5x128x2048 .f32) (harg4 : arg4.IsWhole) (arg5 : Memref sig .tc .vmem S5x128x2048 .f32) (harg5 : arg5.IsWhole) (arg6 : Memref sig .tc .vmem S256x2048 .f32) (harg6 : arg6.IsWhole) (hc : ¬ k0_cond1 i = 1#1)
    (x0 : Vec F S1x256 .i32) (x1 : Vec F S5x5 .f32) (x2 : Vec F S5x256x2048 .f32) (x3 : Vec F S5x128x2048 .f32) (x4 : Vec F S5x128x2048 .f32) (x5 : Vec F S256x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (protoBlk i x0 x2 x3) ∗ owns (c : Thread nD τ) arg6 fullShare x5) -∗ K ⟨⟩))
      ⊢ wp frame (wpE (defs₀ (F := F)) Variants.none c none) E (cc0_proto_ema i arg1 harg1 arg2 harg2 arg3 harg3 arg4 harg4 arg5 harg5 arg6 harg6) K := by
  simp only [cc0_proto_ema_eq_skeleton]; unfold cc0_proto_ema_skel
  simp only [k0_part3_eq_skeleton]; unfold k0_part3_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.writes_nil, harg5.read_unread]
    repeat rw [readAt_unread]
    repeat rw [readAt_unread_unit]
    exact puts_eq i x0 x2 x3 x4
  iexists _; isplitr
  swap; · iexact H5
  ipureintro
  exact hf5

end Cert.KernelIdeal.Ema

end
-- ==== Proof.KI.EmaRows.lean ====
module

public import proofs.«01_k».proof.Proof.KI.EmaBody
public import Idealize.ShloMosaic.Lib.Pipeline.Value
public import Idealize.ShloMosaic.Lib.Pipeline.TableIdle

@[expose] public section

set_option maxRecDepth 16384

noncomputable section

namespace Cert.KernelIdeal.Ema

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation BodyObligationLoose cellOf)

variable {F : FTy → Type} [FloatOps F]

local notation "𝕄" => MT nD τ sig Unit (Elt F) ℕ (UR sig nD τ) ℕ

/-- One slice of the features as a matrix. -/
def sxn (n : Fin 5) (x2 : Vec F S5x256x2048 .f32) : FVec F S256x2048 .f32 := fun j => x2 (ValueIdx.ix3 n (j 0) (j 1))

/-- One slice's samples, weighted into the rows of the block. -/
def mixn (i : grid0.Coords) (x0 : Vec F S1x256 .i32) (x2 : Vec F S5x256x2048 .f32) (n : Fin 5) : FVec F S128x2048 .f32 :=
  matmul dot_S128x256_S256x2048_S128x2048_1_0_0_1_n_n none (k0_pay5 i x0) (sxn n x2) (constant S128x2048 .f32 0x00000000#32)

/-- One slice of the block before the normalisation: the decayed old slice plus the weighted samples. -/
def upd (i : grid0.Coords) (x0 : Vec F S1x256 .i32) (x2 : Vec F S5x256x2048 .f32) (x3 : Vec F S5x128x2048 .f32) (n : Fin 5) : FVec F S128x2048 .f32 := fun j =>
  FloatOps.addf (FloatOps.mulf (k0_pay4 i x0 (ValueIdx.ix2 (j 0) (0 : Fin 1))) (x3 (ValueIdx.ix3 n (j 0) (j 1)))) (mixn i x0 x2 n j)

/-- The divisor: the root of the sum of squares over the slices, at least a small positive number. -/
def nrm (i : grid0.Coords) (x0 : Vec F S1x256 .i32) (x2 : Vec F S5x256x2048 .f32) (x3 : Vec F S5x128x2048 .f32) : FVec F S128x2048 .f32 := fun j =>
  FloatOps.maximumf (FloatOps.sqrt (FloatOps.addf (FloatOps.addf (FloatOps.addf (FloatOps.addf
    (FloatOps.mulf (upd i x0 x2 x3 0 j) (upd i x0 x2 x3 0 j)) (FloatOps.mulf (upd i x0 x2 x3 1 j) (upd i x0 x2 x3 1 j)))
    (FloatOps.mulf (upd i x0 x2 x3 2 j) (upd i x0 x2 x3 2 j))) (FloatOps.mulf (upd i x0 x2 x3 3 j) (upd i x0 x2 x3 3 j)))
    (FloatOps.mulf (upd i x0 x2 x3 4 j) (upd i x0 x2 x3 4 j)))) (Scalar.ofBits .f32 0x2B8CBCCC#32)

/-- A column stretched over the lanes reads the column. -/
theorem bcast_col (v : FVec F S128x1 .f32) (j : S128x2048.Idx) :
    broadcastTo S128x2048 v broadcasts_S128x1_S128x2048 j = v (ValueIdx.ix2 (j 0) (0 : Fin 1)) := by
  show v _ = v _
  congr 1
  funext a
  fin_cases a <;> rfl

/-- A slice of the block read as a matrix. -/
theorem cast_row (v : Vec F S1x128x2048 .f32) (j : S128x2048.Idx) :
    shapeCast S128x2048 v shapeCasts_S1x128x2048_S128x2048 j = v (ValueIdx.ix3 (0 : Fin 1) (j 0) (j 1)) := by
  refine (shapeCast_dropUnit_apply _ v _ j).trans ?_
  congr 1
  funext a
  fin_cases a <;> rfl

/-- A slice of the features read as a matrix. -/
theorem cast_smp (v : Vec F S1x256x2048 .f32) (j : S256x2048.Idx) :
    shapeCast S256x2048 v shapeCasts_S1x256x2048_S256x2048 j = v (ValueIdx.ix3 (0 : Fin 1) (j 0) (j 1)) := by
  refine (shapeCast_dropUnit_apply _ v _ j).trans ?_
  congr 1
  funext a
  fin_cases a <;> rfl

/-- Slice 0 of the samples, as a matrix. -/
theorem smp0 (x2 : Vec F S5x256x2048 .f32) : shapeCast S256x2048 (sx0 x2) shapeCasts_S1x256x2048_S256x2048 = sxn 0 x2 := by
  funext j
  rw [cast_smp]
  show x2 _ = x2 _
  congr 1
  funext a
  apply Fin.ext
  show _ + 1 * _ = _
  fin_cases a <;> simp
/-- Slice 0 of the prototypes' block, as a matrix. -/
theorem row0 (x3 : Vec F S5x128x2048 .f32) (j : S128x2048.Idx) :
    shapeCast S128x2048 (px0 x3) shapeCasts_S1x128x2048_S128x2048 j = x3 (ValueIdx.ix3 0 (j 0) (j 1)) := by
  rw [cast_row]
  show x3 _ = x3 _
  congr 1
  funext a
  apply Fin.ext
  show _ + 1 * _ = _
  fin_cases a <;> simp
/-- Slice 1 of the samples, as a matrix. -/
theorem smp1 (x2 : Vec F S5x256x2048 .f32) : shapeCast S256x2048 (sx1 x2) shapeCasts_S1x256x2048_S256x2048 = sxn 1 x2 := by
  funext j
  rw [cast_smp]
  show x2 _ = x2 _
  congr 1
  funext a
  apply Fin.ext
  show _ + 1 * _ = _
  fin_cases a <;> simp
/-- Slice 1 of the prototypes' block, as a matrix. -/
theorem row1 (x3 : Vec F S5x128x2048 .f32) (j : S128x2048.Idx) :
    shapeCast S128x2048 (px1 x3) shapeCasts_S1x128x2048_S128x2048 j = x3 (ValueIdx.ix3 1 (j 0) (j 1)) := by
  rw [cast_row]
  show x3 _ = x3 _
  congr 1
  funext a
  apply Fin.ext
  show _ + 1 * _ = _
  fin_cases a <;> simp
/-- Slice 2 of the samples, as a matrix. -/
theorem smp2 (x2 : Vec F S5x256x2048 .f32) : shapeCast S256x2048 (sx2 x2) shapeCasts_S1x256x2048_S256x2048 = sxn 2 x2 := by
  funext j
  rw [cast_smp]
  show x2 _ = x2 _
  congr 1
  funext a
  apply Fin.ext
  show _ + 1 * _ = _
  fin_cases a <;> simp
/-- Slice 2 of the prototypes' block, as a matrix. -/
theorem row2 (x3 : Vec F S5x128x2048 .f32) (j : S128x2048.Idx) :
    shapeCast S128x2048 (px2 x3) shapeCasts_S1x128x2048_S128x2048 j = x3 (ValueIdx.ix3 2 (j 0) (j 1)) := by
  rw [cast_row]
  show x3 _ = x3 _
  congr 1
  funext a
  apply Fin.ext
  show _ + 1 * _ = _
  fin_cases a <;> simp
/-- Slice 3 of the samples, as a matrix. -/
theorem smp3 (x2 : Vec F S5x256x2048 .f32) : shapeCast S256x2048 (sx3 x2) shapeCasts_S1x256x2048_S256x2048 = sxn 3 x2 := by
  funext j
  rw [cast_smp]
  show x2 _ = x2 _
  congr 1
  funext a
  apply Fin.ext
  show _ + 1 * _ = _
  fin_cases a <;> simp
/-- Slice 3 of the prototypes' block, as a matrix. -/
theorem row3 (x3 : Vec F S5x128x2048 .f32) (j : S128x2048.Idx) :
    shapeCast S128x2048 (px3 x3) shapeCasts_S1x128x2048_S128x2048 j = x3 (ValueIdx.ix3 3 (j 0) (j 1)) := by
  rw [cast_row]
  show x3 _ = x3 _
  congr 1
  funext a
  apply Fin.ext
  show _ + 1 * _ = _
  fin_cases a <;> simp
/-- Slice 4 of the samples, as a matrix. -/
theorem smp4 (x2 : Vec F S5x256x2048 .f32) : shapeCast S256x2048 (sx4 x2) shapeCasts_S1x256x2048_S256x2048 = sxn 4 x2 := by
  funext j
  rw [cast_smp]
  show x2 _ = x2 _
  congr 1
  funext a
  apply Fin.ext
  show _ + 1 * _ = _
  fin_cases a <;> simp
/-- Slice 4 of the prototypes' block, as a matrix. -/
theorem row4 (x3 : Vec F S5x128x2048 .f32) (j : S128x2048.Idx) :
    shapeCast S128x2048 (px4 x3) shapeCasts_S1x128x2048_S128x2048 j = x3 (ValueIdx.ix3 4 (j 0) (j 1)) := by
  rw [cast_row]
  show x3 _ = x3 _
  congr 1
  funext a
  apply Fin.ext
  show _ + 1 * _ = _
  fin_cases a <;> simp
/-- The mixed prototypes of slice 0. -/
theorem upd0 (i : grid0.Coords) (x0 : Vec F S1x256 .i32) (x2 : Vec F S5x256x2048 .f32) (x3 : Vec F S5x128x2048 .f32) : k0_pay7 (k0_pay4 i x0) (k0_pay6 i x0 (sx0 x2)) (px0 x3) = upd i x0 x2 x3 0 := by
  funext j
  unfold k0_pay7 k0_pay6
  show FloatOps.addf (FloatOps.mulf _ _) _ = _
  rw [bcast_col, row0, smp0]
  rfl
/-- The mixed prototypes of slice 1. -/
theorem upd1 (i : grid0.Coords) (x0 : Vec F S1x256 .i32) (x2 : Vec F S5x256x2048 .f32) (x3 : Vec F S5x128x2048 .f32) : k0_pay8 (k0_pay4 i x0) (k0_pay5 i x0) (sx1 x2) (px1 x3) = upd i x0 x2 x3 1 := by
  funext j
  unfold k0_pay8
  show FloatOps.addf (FloatOps.mulf _ _) _ = _
  rw [bcast_col, row1, smp1]
  rfl
/-- The mixed prototypes of slice 2. -/
theorem upd2 (i : grid0.Coords) (x0 : Vec F S1x256 .i32) (x2 : Vec F S5x256x2048 .f32) (x3 : Vec F S5x128x2048 .f32) : k0_pay9 (k0_pay4 i x0) (k0_pay5 i x0) (sx2 x2) (px2 x3) = upd i x0 x2 x3 2 := by
  funext j
  unfold k0_pay9
  show FloatOps.addf (FloatOps.mulf _ _) _ = _
  rw [bcast_col, row2, smp2]
  rfl
/-- The mixed prototypes of slice 3. -/
theorem upd3 (i : grid0.Coords) (x0 : Vec F S1x256 .i32) (x2 : Vec F S5x256x2048 .f32) (x3 : Vec F S5x128x2048 .f32) : k0_pay10 (k0_pay4 i x0) (k0_pay5 i x0) (sx3 x2) (px3 x3) = upd i x0 x2 x3 3 := by
  funext j
  unfold k0_pay10
  show FloatOps.addf (FloatOps.mulf _ _) _ = _
  rw [bcast_col, row3, smp3]
  rfl
/-- The mixed prototypes of slice 4. -/
theorem upd4 (i : grid0.Coords) (x0 : Vec F S1x256 .i32) (x2 : Vec F S5x256x2048 .f32) (x3 : Vec F S5x128x2048 .f32) : k0_pay12 (k0_pay4 i x0) (k0_pay5 i x0) (sx4 x2) (px4 x3) = upd i x0 x2 x3 4 := by
  funext j
  unfold k0_pay12
  show FloatOps.addf (FloatOps.mulf _ _) _ = _
  rw [bcast_col, row4, smp4]
  rfl
/-- The first four squares, summed in the kernel's order. -/
theorem sq4_eq (i : grid0.Coords) (x0 : Vec F S1x256 .i32) (x2 : Vec F S5x256x2048 .f32) (x3 : Vec F S5x128x2048 .f32) (j : S128x2048.Idx) : sq4 i x0 x2 x3 j = FloatOps.addf (FloatOps.addf (FloatOps.addf
    (FloatOps.mulf (upd i x0 x2 x3 0 j) (upd i x0 x2 x3 0 j)) (FloatOps.mulf (upd i x0 x2 x3 1 j) (upd i x0 x2 x3 1 j)))
    (FloatOps.mulf (upd i x0 x2 x3 2 j) (upd i x0 x2 x3 2 j))) (FloatOps.mulf (upd i x0 x2 x3 3 j) (upd i x0 x2 x3 3 j)) := by
  unfold sq4 k0_pay11
  rw [upd0, upd1, upd2, upd3]
  rfl
/-- The norm over the five slices, kept off zero. -/
theorem nrm_eq (i : grid0.Coords) (x0 : Vec F S1x256 .i32) (x2 : Vec F S5x256x2048 .f32) (x3 : Vec F S5x128x2048 .f32) : k0_pay13 (k0_pay4 i x0) (k0_pay5 i x0) (sq4 i x0 x2 x3) (sx4 x2) (px4 x3) = nrm i x0 x2 x3 := by
  funext j
  unfold k0_pay13
  rw [upd4]
  show FloatOps.maximumf (FloatOps.sqrt (FloatOps.addf (sq4 i x0 x2 x3 j) _)) _ = _
  rw [sq4_eq]
  rfl
/-- A matrix read as a one-slice block. -/
theorem cast_blk (v : FVec F S128x2048 .f32) (r : Fin 128) (d : Fin 2048) :
    shapeCast S1x128x2048 v shapeCasts_S128x2048_S1x128x2048 (ValueIdx.ix3 (0 : Fin 1) r d) = v (ValueIdx.ix2 r d) := by
  refine (shapeCast_addUnit_apply _ v _ _).trans ?_
  congr 1
  funext a
  fin_cases a <;> rfl
/-- Slice 0 of the result: the mixed prototype over the norm. -/
theorem out0_eq (i : grid0.Coords) (x0 : Vec F S1x256 .i32) (x2 : Vec F S5x256x2048 .f32) (x3 : Vec F S5x128x2048 .f32) (r : Fin 128) (d : Fin 2048) :
    out0 i x0 x2 x3 (ValueIdx.ix3 (0 : Fin 1) r d) = FloatOps.divf (upd i x0 x2 x3 0 (ValueIdx.ix2 r d)) (nrm i x0 x2 x3 (ValueIdx.ix2 r d)) := by
  unfold out0 k0_pay14
  rw [cast_blk, nrm_eq, upd0]
  rfl
/-- Slice 1 of the result: the mixed prototype over the norm. -/
theorem out1_eq (i : grid0.Coords) (x0 : Vec F S1x256 .i32) (x2 : Vec F S5x256x2048 .f32) (x3 : Vec F S5x128x2048 .f32) (r : Fin 128) (d : Fin 2048) :
    out1 i x0 x2 x3 (ValueIdx.ix3 (0 : Fin 1) r d) = FloatOps.divf (upd i x0 x2 x3 1 (ValueIdx.ix2 r d)) (nrm i x0 x2 x3 (ValueIdx.ix2 r d)) := by
  unfold out1 k0_pay15
  rw [cast_blk, nrm_eq, upd1]
  rfl
/-- Slice 2 of the result: the mixed prototype over the norm. -/
theorem out2_eq (i : grid0.Coords) (x0 : Vec F S1x256 .i32) (x2 : Vec F S5x256x2048 .f32) (x3 : Vec F S5x128x2048 .f32) (r : Fin 128) (d : Fin 2048) :
    out2 i x0 x2 x3 (ValueIdx.ix3 (0 : Fin 1) r d) = FloatOps.divf (upd i x0 x2 x3 2 (ValueIdx.ix2 r d)) (nrm i x0 x2 x3 (ValueIdx.ix2 r d)) := by
  unfold out2 k0_pay16
  rw [cast_blk, nrm_eq, upd2]
  rfl
/-- Slice 3 of the result: the mixed prototype over the norm. -/
theorem out3_eq (i : grid0.Coords) (x0 : Vec F S1x256 .i32) (x2 : Vec F S5x256x2048 .f32) (x3 : Vec F S5x128x2048 .f32) (r : Fin 128) (d : Fin 2048) :
    out3 i x0 x2 x3 (ValueIdx.ix3 (0 : Fin 1) r d) = FloatOps.divf (upd i x0 x2 x3 3 (ValueIdx.ix2 r d)) (nrm i x0 x2 x3 (ValueIdx.ix2 r d)) := by
  unfold out3 k0_pay17
  rw [cast_blk, nrm_eq, upd3]
  rfl
/-- Slice 4 of the result: the mixed prototype over the norm. -/
theorem out4_eq (i : grid0.Coords) (x0 : Vec F S1x256 .i32) (x2 : Vec F S5x256x2048 .f32) (x3 : Vec F S5x128x2048 .f32) (r : Fin 128) (d : Fin 2048) :
    out4 i x0 x2 x3 (ValueIdx.ix3 (0 : Fin 1) r d) = FloatOps.divf (upd i x0 x2 x3 4 (ValueIdx.ix2 r d)) (nrm i x0 x2 x3 (ValueIdx.ix2 r d)) := by
  unfold out4 k0_pay18
  rw [cast_blk, nrm_eq, upd4]
  rfl

/-- The block of new prototypes, element by element. -/
theorem protoBlk_apply (i : grid0.Coords) (x0 : Vec F S1x256 .i32) (x2 : Vec F S5x256x2048 .f32) (x3 : Vec F S5x128x2048 .f32) (y : S5x128x2048.Idx) :
    protoBlk i x0 x2 x3 y = FloatOps.divf (upd i x0 x2 x3 (y 0) (ValueIdx.ix2 (y 1) (y 2))) (nrm i x0 x2 x3 (ValueIdx.ix2 (y 1) (y 2))) := by
  unfold protoBlk
  rcases hy : y 0 with ⟨n, hn⟩
  have hn' : n < 5 := hn
  interval_cases n
  · exact out0_eq i x0 x2 x3 (y 1) (y 2)
  · exact out1_eq i x0 x2 x3 (y 1) (y 2)
  · exact out2_eq i x0 x2 x3 (y 1) (y 2)
  · exact out3_eq i x0 x2 x3 (y 1) (y 2)
  · exact out4_eq i x0 x2 x3 (y 1) (y 2)

/-- An element of the new block reads of the old block the elements of its own row and lane only. -/
theorem protoBlk_congr (i : grid0.Coords) (x0 : Vec F S1x256 .i32) (x2 : Vec F S5x256x2048 .f32) (x3 x3' : Vec F S5x128x2048 .f32) (y : S5x128x2048.Idx)
    (h : ∀ m : Fin 5, x3 (ValueIdx.ix3 m (y 1) (y 2)) = x3' (ValueIdx.ix3 m (y 1) (y 2))) : protoBlk i x0 x2 x3 y = protoBlk i x0 x2 x3' y := by
  have hu : ∀ m : Fin 5, upd i x0 x2 x3 m (ValueIdx.ix2 (y 1) (y 2)) = upd i x0 x2 x3' m (ValueIdx.ix2 (y 1) (y 2)) := by
    intro m
    have e := h m
    unfold upd
    show FloatOps.addf (FloatOps.mulf _ (x3 (ValueIdx.ix3 m (y 1) (y 2)))) _ = FloatOps.addf (FloatOps.mulf _ (x3' (ValueIdx.ix3 m (y 1) (y 2)))) _
    rw [e]
  rw [protoBlk_apply, protoBlk_apply]
  unfold nrm
  rw [hu (y 0), hu 0, hu 1, hu 2, hu 3, hu 4]

end Cert.KernelIdeal.Ema

end
-- ==== Proof.KI.EmaDat.lean ====
module

public import proofs.«01_k».proof.Proof.KI.EmaRows
public import Idealize.ShloMosaic.Lib.Pipeline.Value
public import Idealize.ShloMosaic.Lib.Pipeline.TableIdle

@[expose] public section

set_option maxRecDepth 16384

noncomputable section

namespace Cert.KernelIdeal.Ema

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents as the region finds them, per core
variable (V : (c : Dev nD) → (b : Ref sig .tc) → Buf (Elt F) ((c : Thread nD τ).loc b))

/-- The block of window `w`'s array at point `t`: the part of it inside the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body is at its first point exactly at the first point. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- Contents that stand for the rows of a block beyond the array. -/
def junk3 : Vec F S5x128x2048 .f32 := constant S5x128x2048 .f32 0x00000000#32

/-- The block of prototypes at point `t`, its rows beyond the array at zero. -/
def pblk (c : Dev nD) (t : Fin cfg0.N) : Vec F S5x128x2048 .f32 := (cfg0.win 3).fill (cfg0.grid.coords t) junk3 (iblk V c 3 t)

/-- The new block of prototypes at point `t`. -/
def newBlk (c : Dev nD) (t : Fin cfg0.N) : Vec F S5x128x2048 .f32 := protoBlk (grid0.coords t) (iblk V c 0 t) (iblk V c 2 t) (pblk V c t)

/-- The aggregated features. -/
def xb (c : Dev nD) : Vec F S256x2048 .f32 := xbar (iblk V c 1 ⟨0, by decide⟩) (iblk V c 2 ⟨0, by decide⟩)

/-! ## The region's proof data -/

abbrev ms0 (t : Fin cfg0.N) : Memref sig .tc .vmem S1x256 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5x256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5x128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S5x128x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .f32 := win0_5.stage (cfg0.slots t 5)
abbrev hs5 (t : Fin cfg0.N) : (ms5 t).IsWhole := hstage0_5 ((cfg0.slots t 5).cast nbuf0_5)

/-- The proof data: the arrays as found, the inputs' buffers left at their blocks, the outputs' at the new prototypes and the aggregated features. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => pblk V c t
    | ⟨4, _⟩ => newBlk V c t
    | ⟨5, _⟩ => xb V c
  Φ _ := Pipeline.scopedRest spec0 c
  q _ := fullShare
  owed _ := 0

/-- The array behind a window is what the call finds in that buffer. -/
theorem A_eq (c : Dev nD) (w : Fin cfg0.W) : (dat0 V c).A w = V c (Pipeline.arrRef spec0 w) := by dsimp only [dat0]
/-- What window 0 holds after a grid step. -/
theorem after0 (c : Dev nD) (t : Fin cfg0.N) : (dat0 V c).after 0 t = iblk V c 0 t := by dsimp only [dat0]
/-- What window 1 holds after a grid step. -/
theorem after1 (c : Dev nD) (t : Fin cfg0.N) : (dat0 V c).after 1 t = iblk V c 1 t := by dsimp only [dat0]
/-- What window 2 holds after a grid step. -/
theorem after2 (c : Dev nD) (t : Fin cfg0.N) : (dat0 V c).after 2 t = iblk V c 2 t := by dsimp only [dat0]
/-- What window 3 holds after a grid step. -/
theorem after3 (c : Dev nD) (t : Fin cfg0.N) : (dat0 V c).after 3 t = pblk V c t := by dsimp only [dat0]
/-- What window 4 holds after a grid step. -/
theorem after4 (c : Dev nD) (t : Fin cfg0.N) : (dat0 V c).after 4 t = newBlk V c t := by dsimp only [dat0]
/-- What window 5 holds after a grid step. -/
theorem after5 (c : Dev nD) (t : Fin cfg0.N) : (dat0 V c).after 5 t = xb V c := by dsimp only [dat0]
/-- What window 0 holds before a grid step. -/
theorem before0 (c : Dev nD) (t : Fin cfg0.N) (d) : (dat0 V c).before 0 t d = iblk V c 0 t :=
  ((dat0 V c).before_in_eq_fetched 0 rfl (fun _ => rfl) (fun _ _ _ => rfl) (fun t => by rw [after0]; unfold Dat.blockOf iblk; rw [A_eq]; try rfl) t d).trans (by unfold Dat.fetched Dat.blockOf iblk; rw [A_eq]; try rfl)
/-- What window 1 holds before a grid step. -/
theorem before1 (c : Dev nD) (t : Fin cfg0.N) (d) : (dat0 V c).before 1 t d = iblk V c 1 t :=
  ((dat0 V c).before_in_eq_fetched 1 rfl (fun _ => rfl) (fun _ _ _ => rfl) (fun t => by rw [after1]; unfold Dat.blockOf iblk; rw [A_eq]; try rfl) t d).trans (by unfold Dat.fetched Dat.blockOf iblk; rw [A_eq]; try rfl)
/-- What window 2 holds before a grid step. -/
theorem before2 (c : Dev nD) (t : Fin cfg0.N) (d) : (dat0 V c).before 2 t d = iblk V c 2 t :=
  ((dat0 V c).before_in_eq_fetched 2 rfl (fun _ => rfl) (fun _ _ _ => rfl) (fun t => by rw [after2]; unfold Dat.blockOf iblk; rw [A_eq]; try rfl) t d).trans (by unfold Dat.fetched Dat.blockOf iblk; rw [A_eq]; try rfl)
/-- What window 3 holds before a grid step. -/
theorem before3 (c : Dev nD) (t : Fin cfg0.N) (d) : (dat0 V c).before 3 t d = (cfg0.win 3).fill (cfg0.grid.coords t) d (iblk V c 3 t) := by
  unfold Dat.before
  rw [if_pos (fetch0_3 t)]
  unfold Dat.fetched Dat.blockOf iblk
  rw [A_eq]
/-- What a grid step leaves window 0 with. -/
theorem leaves0 (c : Dev nD) (t : Fin cfg0.N) : (dat0 V c).leaves 0 t = owns (c : Thread nD τ) (ms0 t) fullShare (iblk V c 0 t) := by
  unfold Dat.leaves; rw [(rfl : cfg0.idle 0 (cfg0.grid.coords t) = false), (rfl : cfg0.loose 0 = false), after0]
/-- What a grid step leaves window 1 with. -/
theorem leaves1 (c : Dev nD) (t : Fin cfg0.N) : (dat0 V c).leaves 1 t = owns (c : Thread nD τ) (ms1 t) fullShare (iblk V c 1 t) := by
  unfold Dat.leaves; rw [(rfl : cfg0.idle 1 (cfg0.grid.coords t) = false), (rfl : cfg0.loose 1 = false), after1]
/-- What a grid step leaves window 2 with. -/
theorem leaves2 (c : Dev nD) (t : Fin cfg0.N) : (dat0 V c).leaves 2 t = owns (c : Thread nD τ) (ms2 t) fullShare (iblk V c 2 t) := by
  unfold Dat.leaves; rw [(rfl : cfg0.idle 2 (cfg0.grid.coords t) = false), (rfl : cfg0.loose 2 = false), after2]
/-- What a grid step leaves window 3 with. -/
theorem leaves3 (c : Dev nD) (t : Fin cfg0.N) : (dat0 V c).leaves 3 t
    = iprop(∃ d, owns (c : Thread nD τ) (ms3 t) fullShare ((cfg0.win 3).fill (cfg0.grid.coords t) d ((cfg0.win 3).cut (cfg0.grid.coords t) (pblk V c t)))) := by
  unfold Dat.leaves; rw [after3]; rfl
/-- What a grid step leaves window 4 with. -/
theorem leaves4 (c : Dev nD) (t : Fin cfg0.N) : (dat0 V c).leaves 4 t
    = iprop(∃ d, owns (c : Thread nD τ) (ms4 t) fullShare ((cfg0.win 4).fill (cfg0.grid.coords t) d ((cfg0.win 4).cut (cfg0.grid.coords t) (newBlk V c t)))) := by
  unfold Dat.leaves; rw [after4]; rfl

/-- The two blocked windows overhang their arrays by the same rows. -/
theorem xsize_eq (t : Fin cfg0.N) : ∀ a : Fin 3, (cfg0.win 4).xsize (cfg0.grid.coords t) a = (cfg0.win 3).xsize (cfg0.grid.coords t) a :=
  fun a => by fin_cases a <;> rfl
/-- The first and the last axis are never cut. -/
theorem xsize_0 (t : Fin cfg0.N) : (cfg0.win 3).xsize (cfg0.grid.coords t) (0 : Fin 3) = 5 := by
  revert t; exact (by decide +kernel : ∀ t : Fin grid0.N, win0_3.xsize (grid0.coords t) (0 : Fin 3) = 5)

/-- The new block at the rows inside the array does not depend on what the block fetched holds at the rows beyond it. -/
theorem cut_new (c : Dev nD) (t : Fin cfg0.N) (d : Vec F S5x128x2048 .f32) :
    (cfg0.win 4).cut (cfg0.grid.coords t) (protoBlk (grid0.coords t) (iblk V c 0 t) (iblk V c 2 t) ((cfg0.win 3).fill (cfg0.grid.coords t) d (iblk V c 3 t)))
      = (cfg0.win 4).cut (cfg0.grid.coords t) (newBlk V c t) := by
  funext j
  refine protoBlk_congr _ _ _ _ _ _ fun m => ?_
  refine (fun hm => ?_ : (cfg0.win 3).moved (cfg0.grid.coords t) (ValueIdx.ix3 m ((cfg0.win 4).xinj (cfg0.grid.coords t) j (1 : Fin 3)) ((cfg0.win 4).xinj (cfg0.grid.coords t) j (2 : Fin 3))) = true → _) ?_
  · unfold pblk Window.fill
    rw [dif_pos hm, dif_pos hm]
  · rw [Window.moved_iff]
    intro a
    fin_cases a
    · show m.val < (cfg0.win 3).xsize (cfg0.grid.coords t) (0 : Fin 3)
      rw [xsize_0]; exact m.isLt
    · show (j (1 : Fin 3)).val < (cfg0.win 3).xsize (cfg0.grid.coords t) (1 : Fin 3)
      rw [← xsize_eq]; exact (j (1 : Fin 3)).isLt
    · show (j (2 : Fin 3)).val < (cfg0.win 3).xsize (cfg0.grid.coords t) (2 : Fin 3)
      rw [← xsize_eq]; exact (j (2 : Fin 3)).isLt

/-! ## The aggregated features' window -/

/-- The step at which window 5 is written. -/
theorem live5 : ∀ t : Fin cfg0.N, t.val = 0 → cfg0.idle 5 (cfg0.grid.coords t) = false :=
  (by decide +kernel : ∀ t : Fin grid0.N, t.val = 0 → idle0 5 (grid0.coords t) = false)
/-- The steps at which window 5 is left alone. -/
theorem idle5 : ∀ t : Fin cfg0.N, t.val ≠ 0 → cfg0.idle 5 (cfg0.grid.coords t) = true :=
  (by decide +kernel : ∀ t : Fin grid0.N, t.val ≠ 0 → idle0 5 (grid0.coords t) = true)
/-- The grid has eight steps. -/
theorem lt8 (t : Fin cfg0.N) : t.val < 8 := lt_of_lt_of_eq t.isLt (show cfg0.N = 8 from N_0)
/-- Before the last step window 5 is not written back. -/
theorem noflush5 (t : Fin cfg0.N) (h : t.val ≠ 7) : (cfg0.win 5).flush t = false := by
  have := lt8 t
  rw [Bool.eq_false_iff]; intro hf; have := (flush0_5 t).mp hf; omega
/-- At the last step window 5 is written back. -/
theorem isflush5 (t : Fin cfg0.N) (h : t.val = 7) : (cfg0.win 5).flush t = true := (flush0_5 t).mpr (by omega)
/-- At the last step window 5 still holds what an earlier step wrote. -/
theorem fresh5 : cfg0.fresh 5 7 = false := by decide +kernel
/-- What window 5 holds before a grid step. -/
theorem before5 (c : Dev nD) (t : Fin cfg0.N) (h : t.val = 7) (d) : (dat0 V c).before 5 t d = xb V c := by
  rw [(dat0 V c).before_out_traj 5 rfl (fun _ _ => rfl) (fun t _ _ _ => by rw [after5, after5]) t.val t rfl d, if_neg (by rw [h, fresh5]; exact Bool.false_ne_true), after5]
/-- What a grid step leaves window 5 with. -/
theorem leaves5_live (c : Dev nD) (t : Fin cfg0.N) (h : t.val = 0) : (dat0 V c).leaves 5 t = owns (c : Thread nD τ) (ms5 t) fullShare (xb V c) := by
  unfold Dat.leaves; rw [live5 t h, (rfl : cfg0.loose 5 = false), after5]
/-- What a grid step leaves window 5 with. -/
theorem leaves5_last (c : Dev nD) (t : Fin cfg0.N) (h : t.val = 7) : (dat0 V c).leaves 5 t = owns (c : Thread nD τ) (ms5 t) fullShare (xb V c) := by
  unfold Dat.leaves; rw [idle5 t (by omega), isflush5 t h, (rfl : cfg0.loose 5 = false), after5]
/-- Any contents the body finds and leaves in this window's buffer at a later point are as its post asks. -/
theorem leaves5_idle (c : Dev nD) (t : Fin cfg0.N) (h : t.val ≠ 0) (d) :
    owns (c : Thread nD τ) (ms5 t) fullShare ((dat0 V c).before 5 t d) ⊢ ((dat0 V c).leaves 5 t : sProp 𝕄) := by
  by_cases h7 : t.val = 7
  · rw [leaves5_last V c t h7, before5 V c t h7]
  · rw [(dat0 V c).leaves_idle 5 t (idle5 t h) (noflush5 t h7)]
    iintro H; iexists d; iexact H

/-! ## The body obligation -/

/-- What the body is called with at point `t`. -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))
/-- What it returns. -/
def bodyPost (c : Dev nD) (t : Fin cfg0.N) : sProp 𝕄 :=
  iprop((dat0 V c).Φ t.succ ∗ (dat0 V c).owesAt () t.succ
    ∗ (dat0 V c).leaves 0 t
    ∗ (dat0 V c).leaves 1 t
    ∗ (dat0 V c).leaves 2 t
    ∗ (dat0 V c).leaves 3 t
    ∗ (dat0 V c).leaves 4 t
    ∗ (dat0 V c).leaves 5 t)

set_option maxHeartbeats 4000000 in
/-- The body at the first point. -/
theorem soundA (c : Dev nD) (t : Fin cfg0.N) (h0 : t.val = 0) :
    bodyPre V c t ⊢ wp frame (wpE (defs₀ (F := F)) Variants.none c none) Set.univ (bodyAt0 t) (fun _ => bodyPost V c t) := by
  unfold bodyPre bodyPost bodyAt0
  simp only [before0, before1, before2, before3, leaves0, leaves1, leaves2, leaves3, leaves4]
  rw [show (dat0 V c).owesAt () t.succ = (dat0 V c).owesAt () t.castSucc from rfl]
  rw [show (dat0 V c).Φ t.succ = Pipeline.scopedRest spec0 c from rfl, show (dat0 V c).Φ t.castSucc = Pipeline.scopedRest spec0 c from rfl]
  iintro ⟨Hr, Ho, ⟨%d0, H0⟩, ⟨%d1, H1⟩, ⟨%d2, H2⟩, ⟨%d3, H3⟩, ⟨%d4, H4⟩, ⟨%d5, H5⟩⟩
  iapply (bodyA c (grid0.coords t) (ms0 t) (hs0 t) (ms1 t) (hs1 t) (ms2 t) (hs2 t) (ms3 t) (hs3 t) (ms4 t) (hs4 t) (ms5 t) (hs5 t) ((hcond t).mpr h0) (iblk V c 0 t) (iblk V c 1 t) (iblk V c 2 t) ((cfg0.win 3).fill (cfg0.grid.coords t) d3 (iblk V c 3 t)) _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [Hr]; · iexact Hr
  isplitl [Ho]; · iexact Ho
  isplitl [H0]; · iexact H0
  isplitl [H1]; · iexact H1
  isplitl [H2]; · iexact H2
  isplitl [H3]
  · iexists d3
    unfold pblk; rw [(cfg0.win 3).cut_fill]; iexact H3
  isplitl [H4]
  · iexists (protoBlk (grid0.coords t) (iblk V c 0 t) (iblk V c 2 t) ((cfg0.win 3).fill (cfg0.grid.coords t) d3 (iblk V c 3 t)))
    rw [← cut_new V c t d3, (cfg0.win 4).fill_cut]; iexact H4
  rw [leaves5_live V c t h0]
  have e : t = ⟨0, by decide⟩ := Fin.ext h0
  subst e
  iexact H5

set_option maxHeartbeats 4000000 in
/-- The body at a later point. -/
theorem soundB (c : Dev nD) (t : Fin cfg0.N) (h0 : t.val ≠ 0) :
    bodyPre V c t ⊢ wp frame (wpE (defs₀ (F := F)) Variants.none c none) Set.univ (bodyAt0 t) (fun _ => bodyPost V c t) := by
  unfold bodyPre bodyPost bodyAt0
  simp only [before0, before1, before2, before3, leaves0, leaves1, leaves2, leaves3, leaves4]
  rw [show (dat0 V c).owesAt () t.succ = (dat0 V c).owesAt () t.castSucc from rfl]
  rw [show (dat0 V c).Φ t.succ = Pipeline.scopedRest spec0 c from rfl, show (dat0 V c).Φ t.castSucc = Pipeline.scopedRest spec0 c from rfl]
  iintro ⟨Hr, Ho, ⟨%d0, H0⟩, ⟨%d1, H1⟩, ⟨%d2, H2⟩, ⟨%d3, H3⟩, ⟨%d4, H4⟩, ⟨%d5, H5⟩⟩
  iapply (bodyB c (grid0.coords t) (ms0 t) (hs0 t) (ms1 t) (hs1 t) (ms2 t) (hs2 t) (ms3 t) (hs3 t) (ms4 t) (hs4 t) (ms5 t) (hs5 t) (fun h => h0 ((hcond t).mp h)) (iblk V c 0 t) (iblk V c 1 t) (iblk V c 2 t) ((cfg0.win 3).fill (cfg0.grid.coords t) d3 (iblk V c 3 t)) _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [Hr]; · iexact Hr
  isplitl [Ho]; · iexact Ho
  isplitl [H0]; · iexact H0
  isplitl [H1]; · iexact H1
  isplitl [H2]; · iexact H2
  isplitl [H3]
  · iexists d3
    unfold pblk; rw [(cfg0.win 3).cut_fill]; iexact H3
  isplitl [H4]
  · iexists (protoBlk (grid0.coords t) (iblk V c 0 t) (iblk V c 2 t) ((cfg0.win 3).fill (cfg0.grid.coords t) d3 (iblk V c 3 t)))
    rw [← cut_new V c t d3, (cfg0.win 4).fill_cut]; iexact H4
  iapply (leaves5_idle V c t h0 d5)
  iexact H5

/-- The body at any point. -/
theorem sound_body (c : Dev nD) (t : Fin cfg0.N) :
    bodyPre V c t ⊢ wp frame (wpE (defs₀ (F := F)) Variants.none c none) Set.univ (bodyAt0 t) (fun _ => bodyPost V c t) := by
  by_cases h0 : t.val = 0
  · exact soundA V c t h0
  · exact soundB V c t h0

/-- The body at a grid step is the printed one on that step's windows. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dat0 (F := F) V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : iprop(Pipeline.scopedRest spec0 c ∗ emp) ⊢ (dat0 (F := F) V c).Φ 0 := by
  rw [show (dat0 V c).Φ 0 = Pipeline.scopedRest spec0 c from rfl]
  iintro ⟨H, -⟩; iexact H

/-- After the last point the invariant gives it back. -/
theorem hout (c : Dev nD) : (dat0 (F := F) V c).Φ (Fin.last cfg0.N) ⊢ iprop(Pipeline.scopedRest spec0 c ∗ emp) := by
  rw [show (dat0 V c).Φ (Fin.last cfg0.N) = Pipeline.scopedRest spec0 c from rfl]
  iintro H
  isplitl [H]; · iexact H
  iempintro

end Cert.KernelIdeal.Ema

end
-- ==== Proof.KI.GcnBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- A load of a whole buffer is what the buffer holds. -/
theorem readAt_unread {sp : Space} {s : Shape} {e : EltTy} (m : Memref sig .tc sp s e) (h : m.IsWhole) (x : s.Idx → Elt F e)
    {off : Fin s.rank → ℕ} (inb : ∀ a, off a + s.size a ≤ s.size a) :
    m.view.readAt (Elt F) (Rect.unit off s.size inb).toLoadRect (h.unread x) = x := by
  rw [View.readAt_full, h.read_unread]

/-- The condition of the body's first `scf.if`: the first grid point. -/
abbrev cond0 (i : grid1.Coords) : Prop := (Scalar.cmpi .ne (Scalar.extui (Scalar.cmpi .eq (BitVec.ofNat 32 (i 0).val) 0#32)) 0#32) = 1#1
/-- The condition of the second: a point that takes a block of the product. -/
abbrev cond1 (i : grid1.Coords) : Prop := k1_cond2 i = 1#1
/-- The condition of the third: the last grid point. -/
abbrev cond2 (i : grid1.Coords) : Prop := k1_cond3 i = 1#1

/-- What the first point leaves in the scratch of the hidden layer. -/
abbrev hNew (x0 : Vec F S5x5 .f32) (x1 : Vec F S256x2048 .f32) (x2 : Vec F S2048x1024 .f32) : Vec F S256x1024 .f32 := k1_pay1 x0 x1 x2
/-- The scratch of the transposed classifier after a block is put in at columns `256 i`. -/
abbrev wNew (i : grid1.Coords) (xw : Vec F S1000x2048 .f32) (x6 : Vec F S1000x256 .f32) : Vec F S1000x2048 .f32 :=
  VecWindow.put xw (k1_off1 i) S1000x256.size (k1_pay4 x6)

set_option maxHeartbeats 1000000 in
/-- The body at the first point: the hidden layer and the bias are set, the first block is added. -/
theorem bodyA (c : Dev nD) (i : grid1.Coords) (arg1 : Memref sig .tc .vmem S5x5 .f32) (harg1 : arg1.IsWhole) (arg2 : Memref sig .tc .vmem S256x2048 .f32) (harg2 : arg2.IsWhole) (arg3 : Memref sig .tc .vmem S2048x1024 .f32) (harg3 : arg3.IsWhole) (arg4 : Memref sig .tc .vmem S1024x256 .f32) (harg4 : arg4.IsWhole) (arg5 : Memref sig .tc .vmem S5x256x2048 .f32) (harg5 : arg5.IsWhole) (arg6 : Memref sig .tc .vmem S1x2048 .f32) (harg6 : arg6.IsWhole) (arg7 : Memref sig .tc .vmem S1000x256 .f32) (harg7 : arg7.IsWhole) (arg8 : Memref sig .tc .vmem S1x1000 .f32) (harg8 : arg8.IsWhole) (arg9 : Memref sig .tc .vmem S1000x256 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S1000x2048 .f32) (harg12 : arg12.IsWhole) (hc0 : cond0 i) (hc1 : cond1 i) (hc2 : ¬cond2 i)
    (x0 : Vec F S5x5 .f32) (x1 : Vec F S256x2048 .f32) (x2 : Vec F S2048x1024 .f32) (x3 : Vec F S1024x256 .f32) (x4 : Vec F S5x256x2048 .f32) (x5 : Vec F S1x2048 .f32) (x6 : Vec F S1000x256 .f32) (x7 : Vec F S1x1000 .f32) (xo : Vec F S1000x256 .f32) (xh : Vec F S256x1024 .f32) (xg : Vec F S256x2048 .f32) (xw : Vec F S1000x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xh ∗ owns (c : Thread nD τ) arg11 fullShare xg ∗ owns (c : Thread nD τ) arg12 fullShare xw
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare (hNew x0 x1 x2) ∗ owns (c : Thread nD τ) arg11 fullShare (k1_pay3 x4 (hNew x0 x1 x2) x3 (k1_pay2 x5)) ∗ owns (c : Thread nD τ) arg12 fullShare (wNew i xw x6)) -∗ K ⟨⟩))
      ⊢ wp frame (wpE (defs₀ (F := F)) Variants.none c none) E (cc1_gcn_fcg i arg1 harg1 arg2 harg2 arg3 harg3 arg4 harg4 arg5 harg5 arg6 harg6 arg7 harg7 arg8 harg8 arg9 harg9 arg10 harg10 arg11 harg11 arg12 harg12) K := by
  simp only [cc1_gcn_fcg_eq_skeleton]; unfold cc1_gcn_fcg_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    first | rw [View.read_writes_full] | (unfold bodyA.sl.H9_1; rw [View.read_writes_full]) | rw [View.read_writes_cons_put _ _ _ _ _ rfl, View.writes_nil, harg12.read_unread]
    try unfold bodyA.sl.v13 bodyA.sl.v16
    try unfold bodyA.sl.H9_1 bodyA.sl.H10_1
    repeat rw [View.readCov_full]
    repeat rw [readAt_unread]
  isplitl [H10]
  · iexists _; isplitr
    swap; · iexact H10
    ipureintro
    first | rw [View.read_writes_full] | (unfold bodyA.sl.H9_1; rw [View.read_writes_full]) | rw [View.read_writes_cons_put _ _ _ _ _ rfl, View.writes_nil, harg12.read_unread]
    try unfold bodyA.sl.v13 bodyA.sl.v16
    try unfold bodyA.sl.H9_1 bodyA.sl.H10_1
    repeat rw [View.readCov_full]
    repeat rw [readAt_unread]
  iexists _; isplitr
  swap; · iexact H11
  ipureintro
  first | rw [View.read_writes_full] | (unfold bodyA.sl.H9_1; rw [View.read_writes_full]) | rw [View.read_writes_cons_put _ _ _ _ _ rfl, View.writes_nil, harg12.read_unread]
  try unfold bodyA.sl.v13 bodyA.sl.v16
  try unfold bodyA.sl.H9_1 bodyA.sl.H10_1
  repeat rw [View.readCov_full]
  repeat rw [readAt_unread]

set_option maxHeartbeats 1000000 in
/-- The body at a later point that takes a block: one block is added. -/
theorem bodyB (c : Dev nD) (i : grid1.Coords) (arg1 : Memref sig .tc .vmem S5x5 .f32) (harg1 : arg1.IsWhole) (arg2 : Memref sig .tc .vmem S256x2048 .f32) (harg2 : arg2.IsWhole) (arg3 : Memref sig .tc .vmem S2048x1024 .f32) (harg3 : arg3.IsWhole) (arg4 : Memref sig .tc .vmem S1024x256 .f32) (harg4 : arg4.IsWhole) (arg5 : Memref sig .tc .vmem S5x256x2048 .f32) (harg5 : arg5.IsWhole) (arg6 : Memref sig .tc .vmem S1x2048 .f32) (harg6 : arg6.IsWhole) (arg7 : Memref sig .tc .vmem S1000x256 .f32) (harg7 : arg7.IsWhole) (arg8 : Memref sig .tc .vmem S1x1000 .f32) (harg8 : arg8.IsWhole) (arg9 : Memref sig .tc .vmem S1000x256 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S1000x2048 .f32) (harg12 : arg12.IsWhole) (hc0 : ¬cond0 i) (hc1 : cond1 i) (hc2 : ¬cond2 i)
    (x0 : Vec F S5x5 .f32) (x1 : Vec F S256x2048 .f32) (x2 : Vec F S2048x1024 .f32) (x3 : Vec F S1024x256 .f32) (x4 : Vec F S5x256x2048 .f32) (x5 : Vec F S1x2048 .f32) (x6 : Vec F S1000x256 .f32) (x7 : Vec F S1x1000 .f32) (xo : Vec F S1000x256 .f32) (xh : Vec F S256x1024 .f32) (xg : Vec F S256x2048 .f32) (xw : Vec F S1000x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xh ∗ owns (c : Thread nD τ) arg11 fullShare xg ∗ owns (c : Thread nD τ) arg12 fullShare xw
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xh ∗ owns (c : Thread nD τ) arg11 fullShare (k1_pay3 x4 xh x3 xg) ∗ owns (c : Thread nD τ) arg12 fullShare (wNew i xw x6)) -∗ K ⟨⟩))
      ⊢ wp frame (wpE (defs₀ (F := F)) Variants.none c none) E (cc1_gcn_fcg i arg1 harg1 arg2 harg2 arg3 harg3 arg4 harg4 arg5 harg5 arg6 harg6 arg7 harg7 arg8 harg8 arg9 harg9 arg10 harg10 arg11 harg11 arg12 harg12) K := by
  simp only [cc1_gcn_fcg_eq_skeleton]; unfold cc1_gcn_fcg_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    first | rw [View.read_writes_full] | rw [View.read_writes_cons_put _ _ _ _ _ rfl, View.writes_nil, harg12.read_unread]
    repeat rw [readAt_unread]
  iexists _; isplitr
  swap; · iexact H11
  ipureintro
  first | rw [View.read_writes_full] | rw [View.read_writes_cons_put _ _ _ _ _ rfl, View.writes_nil, harg12.read_unread]
  repeat rw [readAt_unread]

set_option maxHeartbeats 1000000 in
/-- The body at the last point: the result is stored. -/
theorem bodyC (c : Dev nD) (i : grid1.Coords) (arg1 : Memref sig .tc .vmem S5x5 .f32) (harg1 : arg1.IsWhole) (arg2 : Memref sig .tc .vmem S256x2048 .f32) (harg2 : arg2.IsWhole) (arg3 : Memref sig .tc .vmem S2048x1024 .f32) (harg3 : arg3.IsWhole) (arg4 : Memref sig .tc .vmem S1024x256 .f32) (harg4 : arg4.IsWhole) (arg5 : Memref sig .tc .vmem S5x256x2048 .f32) (harg5 : arg5.IsWhole) (arg6 : Memref sig .tc .vmem S1x2048 .f32) (harg6 : arg6.IsWhole) (arg7 : Memref sig .tc .vmem S1000x256 .f32) (harg7 : arg7.IsWhole) (arg8 : Memref sig .tc .vmem S1x1000 .f32) (harg8 : arg8.IsWhole) (arg9 : Memref sig .tc .vmem S1000x256 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S1000x2048 .f32) (harg12 : arg12.IsWhole) (hc0 : ¬cond0 i) (hc1 : ¬cond1 i) (hc2 : cond2 i)
    (x0 : Vec F S5x5 .f32) (x1 : Vec F S256x2048 .f32) (x2 : Vec F S2048x1024 .f32) (x3 : Vec F S1024x256 .f32) (x4 : Vec F S5x256x2048 .f32) (x5 : Vec F S1x2048 .f32) (x6 : Vec F S1000x256 .f32) (x7 : Vec F S1x1000 .f32) (xo : Vec F S1000x256 .f32) (xh : Vec F S256x1024 .f32) (xg : Vec F S256x2048 .f32) (xw : Vec F S1000x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xh ∗ owns (c : Thread nD τ) arg11 fullShare xg ∗ owns (c : Thread nD τ) arg12 fullShare xw
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k1_pay5 xw xg x7) ∗ owns (c : Thread nD τ) arg10 fullShare xh ∗ owns (c : Thread nD τ) arg11 fullShare xg ∗ owns (c : Thread nD τ) arg12 fullShare xw) -∗ K ⟨⟩))
      ⊢ wp frame (wpE (defs₀ (F := F)) Variants.none c none) E (cc1_gcn_fcg i arg1 harg1 arg2 harg2 arg3 harg3 arg4 harg4 arg5 harg5 arg6 harg6 arg7 harg7 arg8 harg8 arg9 harg9 arg10 harg10 arg11 harg11 arg12 harg12) K := by
  simp only [cc1_gcn_fcg_eq_skeleton]; unfold cc1_gcn_fcg_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    first | rw [View.read_writes_full] | rw [View.read_writes_cons_put _ _ _ _ _ rfl, View.writes_nil, harg12.read_unread]
    repeat rw [readAt_unread]
  isplitl [H9]
  · iexists _; isplitr; · ipureintro; exact harg10.read_unread _
    iexact H9
  isplitl [H10]
  · iexists _; isplitr; · ipureintro; exact harg11.read_unread _
    iexact H10
  iexists _; isplitr; · ipureintro; exact harg12.read_unread _
  iexact H11

end Cert.KernelIdeal.Gcn

end
-- ==== Proof.KI.GcnDat.lean ====
module

public import proofs.«01_k».proof.Proof.KI.GcnBody

@[expose] public section

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- the buffers' contents as the region finds them, per core
variable (V : (c : Dev nD) → (b : Ref sig .tc) → Buf (Elt F) ((c : Thread nD τ).loc b))

/-- The block of window `w`'s array at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three conditions over the points -/

/-- The first branch runs at the first step. -/
theorem hcond0 : ∀ t : Fin cfg1.N, cond0 (grid1.coords t) ↔ t.val = 0 :=
  (by decide +kernel : ∀ t : Fin grid1.N, cond0 (grid1.coords t) ↔ t.val = 0)
/-- The second branch runs at the first eight steps. -/
theorem hcond1 : ∀ t : Fin cfg1.N, cond1 (grid1.coords t) ↔ t.val < 8 :=
  (by decide +kernel : ∀ t : Fin grid1.N, cond1 (grid1.coords t) ↔ t.val < 8)
/-- The third branch runs at the last step. -/
theorem hcond2 : ∀ t : Fin cfg1.N, cond2 (grid1.coords t) ↔ t.val = 8 :=
  (by decide +kernel : ∀ t : Fin grid1.N, cond2 (grid1.coords t) ↔ t.val = 8)
/-- The columns a point's block of the transposed classifier goes to. -/
theorem off_eq : ∀ t : Fin cfg1.N, ∀ a : Fin 2, k1_off1 (grid1.coords t) a = ![0, (256 * t.val) % 2304] a :=
  (by decide +kernel : ∀ t : Fin grid1.N, ∀ a : Fin 2, k1_off1 (grid1.coords t) a = ![0, (256 * t.val) % 2304] a)

/-! ## The carried scratch -/

/-- The scratch contents: the hidden layer, the running product, the transposed classifier. -/
abbrev St (F : FTy → Type) : Type := Vec F S256x1024 .f32 × Vec F S256x2048 .f32 × Vec F S1000x2048 .f32

/-- One point's effect on the scratch. -/
def step (c : Dev nD) (t : Fin cfg1.N) (s : St F) : St F :=
  if t.val = 0 then
    (hNew (iblk V c 0 t) (iblk V c 1 t) (iblk V c 2 t),
      k1_pay3 (iblk V c 4 t) (hNew (iblk V c 0 t) (iblk V c 1 t) (iblk V c 2 t)) (iblk V c 3 t) (k1_pay2 (iblk V c 5 t)),
      wNew (grid1.coords t) s.2.2 (iblk V c 6 t))
  else if t.val < 8 then
    (s.1, k1_pay3 (iblk V c 4 t) s.1 (iblk V c 3 t) s.2.1, wNew (grid1.coords t) s.2.2 (iblk V c 6 t))
  else s

/-- The scratch before point `n`, from `s0` before the first. -/
def st (c : Dev nD) (s0 : St F) : (n : ℕ) → n ≤ cfg1.N → St F
  | 0, _ => s0
  | n + 1, h => step V c ⟨n, h⟩ (st c s0 n (Nat.le_of_lt h))

/-- Contents that stand for what the scratch held before the region. -/
def junk : St F := (constant S256x1024 .f32 0x00000000#32, constant S256x2048 .f32 0x00000000#32, constant S1000x2048 .f32 0x00000000#32)

/-- From the second point on the first two scratch buffers do not depend on what they held before the region. -/
theorem st_hg (c : Dev nD) (s0 s1 : St F) : ∀ (n : ℕ) (h : n ≤ cfg1.N), n ≠ 0 → (st V c s0 n h).1 = (st V c s1 n h).1 ∧ (st V c s0 n h).2.1 = (st V c s1 n h).2.1
  | 0, _, hn => absurd rfl hn
  | n + 1, h, _ => by
    by_cases hz : n = 0
    · subst hz; exact ⟨rfl, rfl⟩
    · obtain ⟨i1, i2⟩ := st_hg c s0 s1 n (Nat.le_of_lt h) hz
      simp only [st, step, if_neg hz]
      split
      · exact ⟨i1, by simp only [i1, i2]⟩
      · exact ⟨i1, i2⟩

/-- The columns of the transposed classifier already put in do not depend on what the scratch held before the region. -/
theorem st_w (c : Dev nD) (s0 s1 : St F) : ∀ (n : ℕ) (h : n ≤ cfg1.N), n ≤ 8 → ∀ y : S1000x2048.Idx, (y 1).val < 256 * n → (st V c s0 n h).2.2 y = (st V c s1 n h).2.2 y
  | 0, _, _, y, hy => absurd hy (by omega)
  | n + 1, h, h8, y, hy => by
    have hn : n < 8 := by omega
    have key : ∀ s : St F, (step V c ⟨n, h⟩ s).2.2 = wNew (grid1.coords ⟨n, h⟩) s.2.2 (iblk V c 6 ⟨n, h⟩) := by
      intro s; unfold step; split
      · rfl
      · first | rfl | (rw [if_pos hn])
    simp only [st, key]
    unfold wNew VecWindow.put
    split
    · rfl
    · rename_i hc
      refine st_w c s0 s1 n (Nat.le_of_lt h) (Nat.le_of_lt hn) y ?_
      by_contra hge
      apply hc
      intro a
      rw [off_eq ⟨n, h⟩ a]
      have e : (256 * n) % 2304 = 256 * n := Nat.mod_eq_of_lt (by omega)
      fin_cases a
      · exact ⟨Nat.zero_le _, by simpa using (y 0).isLt⟩
      · refine ⟨?_, ?_⟩
        · show (256 * n) % 2304 ≤ (y 1).val
          omega
        · show (y 1).val < (256 * n) % 2304 + 256
          omega

/-- At the last point the two buffers the result is computed from do not depend on what the scratch held before the region. -/
theorem st_last (c : Dev nD) (s0 s1 : St F) (h : 8 ≤ cfg1.N) : (st V c s0 8 h).2 = (st V c s1 8 h).2 :=
  Prod.ext (st_hg V c s0 s1 8 h (by decide)).2 (funext fun y => st_w V c s0 s1 8 h le_rfl y (by have := (y 1).isLt; simpa using this))

/-- The transposed prediction the last point stores. -/
def predT (c : Dev nD) : Vec F S1000x256 .f32 :=
  k1_pay5 (st V c junk 8 (by decide)).2.2 (st V c junk 8 (by decide)).2.1 (iblk V c 7 ⟨8, by decide⟩)

/-! ## The region's proof data -/

abbrev ms0 (t : Fin cfg1.N) : Memref sig .tc .vmem S5x5 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S256x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S5x256x2048 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x2048 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1000x256 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x1000 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1000x256 .f32 := win1_8.stage (cfg1.slots t 8)
abbrev hs8 (t : Fin cfg1.N) : (ms8 t).IsWhole := hstage1_8 ((cfg1.slots t 8).cast nbuf1_8)

/-- The first region's staging buffers, idle here, each at something. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f))

/-- The scratch at given contents. -/
def scr (c : Dev nD) (s : St F) : sProp 𝕄 :=
  iprop(owns (c : Thread nD τ) (Memref.whole cc1_scratch0 : Memref sig .tc .vmem S256x1024 .f32) fullShare s.1
    ∗ owns (c : Thread nD τ) (Memref.whole cc1_scratch1 : Memref sig .tc .vmem S256x2048 .f32) fullShare s.2.1
    ∗ owns (c : Thread nD τ) (Memref.whole cc1_scratch2 : Memref sig .tc .vmem S1000x2048 .f32) fullShare s.2.2)

/-- Before point `n`: the scratch at what the points so far made of it. -/
def PhiS (c : Dev nD) (n : ℕ) (h : n ≤ cfg1.N) : sProp 𝕄 :=
  iprop(others c ∗ ∃ s0 : St F, scr c (st V c s0 n h))

/-- The proof data: the arrays as found, the inputs' buffers left at their blocks, the output's buffer at the transposed prediction. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => predT V c
  Φ t := PhiS V c t.val (Nat.le_of_lt_succ t.isLt)
  q _ := fullShare
  owed _ := 0

/-- The array behind a window is what the call finds in that buffer. -/
theorem A_eq (c : Dev nD) (w : Fin cfg1.W) : (dat1 V c).A w = V c (Pipeline.arrRef spec1 w) := by dsimp only [dat1]
/-- What the scratch arrays hold before a step. -/
theorem PhiS_castSucc (c : Dev nD) (t : Fin cfg1.N) : (dat1 V c).Φ t.castSucc = PhiS V c t.val (Nat.le_of_lt t.isLt) := by
  dsimp only [dat1]; exact Pipeline.Dat.Φ_castSucc (PhiS V c) t
/-- What window 8 holds after a grid step. -/
theorem after8 (c : Dev nD) (t : Fin cfg1.N) : (dat1 V c).after 8 t = predT V c := by dsimp only [dat1]

/-- What window 0 holds after a grid step. -/
theorem after0 (c : Dev nD) (t : Fin cfg1.N) : (dat1 V c).after 0 t = iblk V c 0 t := by dsimp only [dat1]
/-- What window 1 holds after a grid step. -/
theorem after1 (c : Dev nD) (t : Fin cfg1.N) : (dat1 V c).after 1 t = iblk V c 1 t := by dsimp only [dat1]
/-- What window 2 holds after a grid step. -/
theorem after2 (c : Dev nD) (t : Fin cfg1.N) : (dat1 V c).after 2 t = iblk V c 2 t := by dsimp only [dat1]
/-- What window 3 holds after a grid step. -/
theorem after3 (c : Dev nD) (t : Fin cfg1.N) : (dat1 V c).after 3 t = iblk V c 3 t := by dsimp only [dat1]
/-- What window 4 holds after a grid step. -/
theorem after4 (c : Dev nD) (t : Fin cfg1.N) : (dat1 V c).after 4 t = iblk V c 4 t := by dsimp only [dat1]
/-- What window 5 holds after a grid step. -/
theorem after5 (c : Dev nD) (t : Fin cfg1.N) : (dat1 V c).after 5 t = iblk V c 5 t := by dsimp only [dat1]
/-- What window 6 holds after a grid step. -/
theorem after6 (c : Dev nD) (t : Fin cfg1.N) : (dat1 V c).after 6 t = iblk V c 6 t := by dsimp only [dat1]
/-- What window 7 holds after a grid step. -/
theorem after7 (c : Dev nD) (t : Fin cfg1.N) : (dat1 V c).after 7 t = iblk V c 7 t := by dsimp only [dat1]
/-- What window 0 holds before a grid step. -/
theorem before0 (c : Dev nD) (t : Fin cfg1.N) (d) : (dat1 V c).before 0 t d = iblk V c 0 t :=
  ((dat1 V c).before_in_eq_fetched 0 rfl (fun _ => rfl) (fun _ _ _ => rfl) (fun t => by rw [after0]; unfold Dat.blockOf iblk; rw [A_eq]; try rfl) t d).trans (by unfold Dat.fetched Dat.blockOf iblk; rw [A_eq]; try rfl)
/-- What window 1 holds before a grid step. -/
theorem before1 (c : Dev nD) (t : Fin cfg1.N) (d) : (dat1 V c).before 1 t d = iblk V c 1 t :=
  ((dat1 V c).before_in_eq_fetched 1 rfl (fun _ => rfl) (fun _ _ _ => rfl) (fun t => by rw [after1]; unfold Dat.blockOf iblk; rw [A_eq]; try rfl) t d).trans (by unfold Dat.fetched Dat.blockOf iblk; rw [A_eq]; try rfl)
/-- What window 2 holds before a grid step. -/
theorem before2 (c : Dev nD) (t : Fin cfg1.N) (d) : (dat1 V c).before 2 t d = iblk V c 2 t :=
  ((dat1 V c).before_in_eq_fetched 2 rfl (fun _ => rfl) (fun _ _ _ => rfl) (fun t => by rw [after2]; unfold Dat.blockOf iblk; rw [A_eq]; try rfl) t d).trans (by unfold Dat.fetched Dat.blockOf iblk; rw [A_eq]; try rfl)
/-- What window 3 holds before a grid step. -/
theorem before3 (c : Dev nD) (t : Fin cfg1.N) (d) : (dat1 V c).before 3 t d = iblk V c 3 t :=
  ((dat1 V c).before_in_eq_fetched 3 rfl (fun _ => rfl) (fun _ _ _ => rfl) (fun t => by rw [after3]; unfold Dat.blockOf iblk; rw [A_eq]; try rfl) t d).trans (by unfold Dat.fetched Dat.blockOf iblk; rw [A_eq]; try rfl)
/-- What window 4 holds before a grid step. -/
theorem before4 (c : Dev nD) (t : Fin cfg1.N) (d) : (dat1 V c).before 4 t d = iblk V c 4 t :=
  ((dat1 V c).before_in_eq_fetched 4 rfl (fun _ => rfl) (fun _ _ _ => rfl) (fun t => by rw [after4]; unfold Dat.blockOf iblk; rw [A_eq]; try rfl) t d).trans (by unfold Dat.fetched Dat.blockOf iblk; rw [A_eq]; try rfl)
/-- What window 5 holds before a grid step. -/
theorem before5 (c : Dev nD) (t : Fin cfg1.N) (d) : (dat1 V c).before 5 t d = iblk V c 5 t :=
  ((dat1 V c).before_in_eq_fetched 5 rfl (fun _ => rfl) (fun _ _ _ => rfl) (fun t => by rw [after5]; unfold Dat.blockOf iblk; rw [A_eq]; try rfl) t d).trans (by unfold Dat.fetched Dat.blockOf iblk; rw [A_eq]; try rfl)
/-- What window 6 holds before a grid step. -/
theorem before6 (c : Dev nD) (t : Fin cfg1.N) (d) : (dat1 V c).before 6 t d = iblk V c 6 t :=
  ((dat1 V c).before_in_eq_fetched 6 rfl (fun _ => rfl) (fun _ _ _ => rfl) (fun t => by rw [after6]; unfold Dat.blockOf iblk; rw [A_eq]; try rfl) t d).trans (by unfold Dat.fetched Dat.blockOf iblk; rw [A_eq]; try rfl)
/-- What window 7 holds before a grid step. -/
theorem before7 (c : Dev nD) (t : Fin cfg1.N) (d) : (dat1 V c).before 7 t d = iblk V c 7 t :=
  ((dat1 V c).before_in_eq_fetched 7 rfl (fun _ => rfl) (fun _ _ _ => rfl) (fun t => by rw [after7]; unfold Dat.blockOf iblk; rw [A_eq]; try rfl) t d).trans (by unfold Dat.fetched Dat.blockOf iblk; rw [A_eq]; try rfl)
/-- What a grid step leaves window 0 with. -/
theorem leaves0 (c : Dev nD) (t : Fin cfg1.N) : (dat1 V c).leavesExact 0 t = owns (c : Thread nD τ) (ms0 t) fullShare (iblk V c 0 t) := by
  unfold Dat.leavesExact; rw [(rfl : cfg1.idle 0 (cfg1.grid.coords t) = false), after0]
/-- What a grid step leaves window 1 with. -/
theorem leaves1 (c : Dev nD) (t : Fin cfg1.N) : (dat1 V c).leavesExact 1 t = owns (c : Thread nD τ) (ms1 t) fullShare (iblk V c 1 t) := by
  unfold Dat.leavesExact; rw [(rfl : cfg1.idle 1 (cfg1.grid.coords t) = false), after1]
/-- What a grid step leaves window 2 with. -/
theorem leaves2 (c : Dev nD) (t : Fin cfg1.N) : (dat1 V c).leavesExact 2 t = owns (c : Thread nD τ) (ms2 t) fullShare (iblk V c 2 t) := by
  unfold Dat.leavesExact; rw [(rfl : cfg1.idle 2 (cfg1.grid.coords t) = false), after2]
/-- What a grid step leaves window 3 with. -/
theorem leaves3 (c : Dev nD) (t : Fin cfg1.N) : (dat1 V c).leavesExact 3 t = owns (c : Thread nD τ) (ms3 t) fullShare (iblk V c 3 t) := by
  unfold Dat.leavesExact; rw [(rfl : cfg1.idle 3 (cfg1.grid.coords t) = false), after3]
/-- What a grid step leaves window 4 with. -/
theorem leaves4 (c : Dev nD) (t : Fin cfg1.N) : (dat1 V c).leavesExact 4 t = owns (c : Thread nD τ) (ms4 t) fullShare (iblk V c 4 t) := by
  unfold Dat.leavesExact; rw [(rfl : cfg1.idle 4 (cfg1.grid.coords t) = false), after4]
/-- What a grid step leaves window 5 with. -/
theorem leaves5 (c : Dev nD) (t : Fin cfg1.N) : (dat1 V c).leavesExact 5 t = owns (c : Thread nD τ) (ms5 t) fullShare (iblk V c 5 t) := by
  unfold Dat.leavesExact; rw [(rfl : cfg1.idle 5 (cfg1.grid.coords t) = false), after5]
/-- What a grid step leaves window 6 with. -/
theorem leaves6 (c : Dev nD) (t : Fin cfg1.N) : (dat1 V c).leavesExact 6 t = owns (c : Thread nD τ) (ms6 t) fullShare (iblk V c 6 t) := by
  unfold Dat.leavesExact; rw [(rfl : cfg1.idle 6 (cfg1.grid.coords t) = false), after6]
/-- What a grid step leaves window 7 with. -/
theorem leaves7 (c : Dev nD) (t : Fin cfg1.N) : (dat1 V c).leavesExact 7 t = owns (c : Thread nD τ) (ms7 t) fullShare (iblk V c 7 t) := by
  unfold Dat.leavesExact; rw [(rfl : cfg1.idle 7 (cfg1.grid.coords t) = false), after7]

/-- Window 8 is idle before the last point, and not flushed there. -/
theorem idle8 : ∀ t : Fin cfg1.N, t.val ≠ 8 → cfg1.idle 8 (cfg1.grid.coords t) = true :=
  (by decide +kernel : ∀ t : Fin grid1.N, t.val ≠ 8 → idle1 8 (grid1.coords t) = true)
/-- The step at which window 8 is written. -/
theorem live8 : ∀ t : Fin cfg1.N, t.val = 8 → cfg1.idle 8 (cfg1.grid.coords t) = false :=
  (by decide +kernel : ∀ t : Fin grid1.N, t.val = 8 → idle1 8 (grid1.coords t) = false)
/-- Before the last step window 8 is not written back. -/
theorem noflush8 (t : Fin cfg1.N) (h : t.val ≠ 8) : (cfg1.win 8).flush t = false := by
  have hN : t.val < 9 := lt_of_lt_of_eq t.isLt (show cfg1.N = 9 from N_1)
  rw [Bool.eq_false_iff]; intro hf; have := (flush1_8 t).mp hf; omega
/-- What a grid step leaves window 8 with. -/
theorem leaves8 (c : Dev nD) (t : Fin cfg1.N) (h : t.val = 8) : (dat1 V c).leavesExact 8 t = owns (c : Thread nD τ) (ms8 t) fullShare (predT V c) := by
  unfold Dat.leavesExact; rw [live8 t h, after8]

/-! ## The body obligation -/

/-- What the body is called with at point `t`. -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d))
    ∗ (∃ d, owns (c : Thread nD τ) (ms7 t) fullShare ((dat1 V c).before 7 t d))
    ∗ (∃ d, owns (c : Thread nD τ) (ms8 t) fullShare ((dat1 V c).before 8 t d)))
/-- What it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at the first point. -/
theorem soundA (c : Dev nD) (t : Fin cfg1.N) (h0 : t.val = 0) (h8 : t.val ≠ 8) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, leaves0, leaves1, leaves2, leaves3, leaves4, leaves5, leaves6, leaves7]
  rw [show (dat1 V c).owesAt () t.succ = (dat1 V c).owesAt () t.castSucc from rfl]
  rw [show (dat1 V c).Φ t.succ = PhiS V c (t.val + 1) t.isLt from rfl, PhiS_castSucc]
  unfold PhiS
  rw [(dat1 V c).leavesExact_idle 8 t (idle8 t h8) (noflush8 t h8)]
  have hst : ∀ s0, st V c s0 (t.val + 1) t.isLt = (hNew (iblk V c 0 t) (iblk V c 1 t) (iblk V c 2 t),
      k1_pay3 (iblk V c 4 t) (hNew (iblk V c 0 t) (iblk V c 1 t) (iblk V c 2 t)) (iblk V c 3 t) (k1_pay2 (iblk V c 5 t)),
      wNew (grid1.coords t) (st V c s0 t.val (Nat.le_of_lt t.isLt)).2.2 (iblk V c 6 t)) := fun s0 => by
    show step V c t _ = _
    unfold step; rw [if_pos h0]
  iintro ⟨⟨Hr, ⟨%s0, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold scr
  icases HS with ⟨HSh, HSg, HSw⟩
  iapply (bodyA c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc1_scratch0) (Memref.isWhole_whole _) (Memref.whole cc1_scratch1) (Memref.isWhole_whole _) (Memref.whole cc1_scratch2) (Memref.isWhole_whole _) ((hcond0 t).mpr h0) ((hcond1 t).mpr (by omega)) (fun h => h8 ((hcond2 t).mp h)) (iblk V c 0 t) (iblk V c 1 t) (iblk V c 2 t) (iblk V c 3 t) (iblk V c 4 t) (iblk V c 5 t) (iblk V c 6 t) (iblk V c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HSh]; · iexact HSh
  isplitl [HSg]; · iexact HSg
  isplitl [HSw]; · iexact HSw
  iintro ⟨H0, H1, H2, H3, H4, H5, H6, H7, H8, HSh, HSg, HSw⟩
  isplitl [Hr HSh HSg HSw]
  · isplitl [Hr]; · iexact Hr
    iexists s0
    rw [hst]
    isplitl [HSh]; · iexact HSh
    isplitl [HSg]; · iexact HSg
    iexact HSw
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4000000 in
/-- The body at a point between the first and the last. -/
theorem soundB (c : Dev nD) (t : Fin cfg1.N) (h0 : t.val ≠ 0) (hlt : t.val < 8) (h8 : t.val ≠ 8) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, leaves0, leaves1, leaves2, leaves3, leaves4, leaves5, leaves6, leaves7]
  rw [show (dat1 V c).owesAt () t.succ = (dat1 V c).owesAt () t.castSucc from rfl]
  rw [show (dat1 V c).Φ t.succ = PhiS V c (t.val + 1) t.isLt from rfl, PhiS_castSucc]
  unfold PhiS
  rw [(dat1 V c).leavesExact_idle 8 t (idle8 t h8) (noflush8 t h8)]
  have hst : ∀ s0, st V c s0 (t.val + 1) t.isLt = ((st V c s0 t.val (Nat.le_of_lt t.isLt)).1,
      k1_pay3 (iblk V c 4 t) (st V c s0 t.val (Nat.le_of_lt t.isLt)).1 (iblk V c 3 t) (st V c s0 t.val (Nat.le_of_lt t.isLt)).2.1,
      wNew (grid1.coords t) (st V c s0 t.val (Nat.le_of_lt t.isLt)).2.2 (iblk V c 6 t)) := fun s0 => by
    show step V c t _ = _
    unfold step; rw [if_neg h0, if_pos (by omega)]
  iintro ⟨⟨Hr, ⟨%s0, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold scr
  icases HS with ⟨HSh, HSg, HSw⟩
  iapply (bodyB c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc1_scratch0) (Memref.isWhole_whole _) (Memref.whole cc1_scratch1) (Memref.isWhole_whole _) (Memref.whole cc1_scratch2) (Memref.isWhole_whole _) (fun h => h0 ((hcond0 t).mp h)) ((hcond1 t).mpr hlt) (fun h => h8 ((hcond2 t).mp h)) (iblk V c 0 t) (iblk V c 1 t) (iblk V c 2 t) (iblk V c 3 t) (iblk V c 4 t) (iblk V c 5 t) (iblk V c 6 t) (iblk V c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HSh]; · iexact HSh
  isplitl [HSg]; · iexact HSg
  isplitl [HSw]; · iexact HSw
  iintro ⟨H0, H1, H2, H3, H4, H5, H6, H7, H8, HSh, HSg, HSw⟩
  isplitl [Hr HSh HSg HSw]
  · isplitl [Hr]; · iexact Hr
    iexists s0
    rw [hst]
    isplitl [HSh]; · iexact HSh
    isplitl [HSg]; · iexact HSg
    iexact HSw
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4000000 in
/-- The body at the last point. -/
theorem soundC (c : Dev nD) (t : Fin cfg1.N) (h8 : t.val = 8) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, leaves0, leaves1, leaves2, leaves3, leaves4, leaves5, leaves6, leaves7]
  rw [show (dat1 V c).owesAt () t.succ = (dat1 V c).owesAt () t.castSucc from rfl]
  rw [show (dat1 V c).Φ t.succ = PhiS V c (t.val + 1) t.isLt from rfl, PhiS_castSucc]
  unfold PhiS
  rw [leaves8 V c t h8]
  have hst : ∀ s0, st V c s0 (t.val + 1) t.isLt = st V c s0 t.val (Nat.le_of_lt t.isLt) := fun s0 => by
    show step V c t _ = _
    unfold step; rw [if_neg (by omega), if_neg (by omega)]
  have hp : ∀ s0, k1_pay5 (st V c s0 t.val (Nat.le_of_lt t.isLt)).2.2 (st V c s0 t.val (Nat.le_of_lt t.isLt)).2.1 (iblk V c 7 t) = predT V c := fun s0 => by
    obtain ⟨n, hn⟩ := t
    obtain rfl : n = 8 := h8
    unfold predT
    rw [st_last V c s0 junk]
  iintro ⟨⟨Hr, ⟨%s0, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold scr
  icases HS with ⟨HSh, HSg, HSw⟩
  iapply (bodyC c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc1_scratch0) (Memref.isWhole_whole _) (Memref.whole cc1_scratch1) (Memref.isWhole_whole _) (Memref.whole cc1_scratch2) (Memref.isWhole_whole _) (fun h => by have := (hcond0 t).mp h; omega) (fun h => by have := (hcond1 t).mp h; omega) ((hcond2 t).mpr h8) (iblk V c 0 t) (iblk V c 1 t) (iblk V c 2 t) (iblk V c 3 t) (iblk V c 4 t) (iblk V c 5 t) (iblk V c 6 t) (iblk V c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HSh]; · iexact HSh
  isplitl [HSg]; · iexact HSg
  isplitl [HSw]; · iexact HSw
  iintro ⟨H0, H1, H2, H3, H4, H5, H6, H7, H8, HSh, HSg, HSw⟩
  isplitl [Hr HSh HSg HSw]
  · isplitl [Hr]; · iexact Hr
    iexists s0
    rw [hst]
    isplitl [HSh]; · iexact HSh
    isplitl [HSg]; · iexact HSg
    iexact HSw
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← hp s0]; iexact H8

/-- The body at any point. -/
theorem sound_body (c : Dev nD) (t : Fin cfg1.N) :
    bodyPre V c t ⊢ wp frame (wpE (defs₀ (F := F)) Variants.none c none) Set.univ (bodyAt1 t) (fun _ => bodyPost V c t) := by
  have hN : t.val < 9 := lt_of_lt_of_eq t.isLt (show cfg1.N = 9 from N_1)
  by_cases h8 : t.val = 8
  · exact soundC V c t h8
  · by_cases h0 : t.val = 0
    · exact soundA V c t h0 h8
    · exact soundB V c t h0 (by omega) h8

/-- The body at a grid step is the printed one on that step's windows. -/
theorem defs₀_row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

/-- What the launch hands the region is the invariant before the first point. -/
theorem hin (c : Dev nD) : iprop(Pipeline.scopedRest spec1 c ∗ emp) ⊢ (dat1 (F := F) V c).Φ 0 := by
  rw [show (dat1 V c).Φ 0 = PhiS V c 0 (Nat.zero_le _) from rfl, scopedRest1_eq]
  unfold PhiS others scr
  simp only [owns_whole]
  iintro ⟨⟨H0, H1, H2, H3, H4, H5, H6, H7, ⟨%f0, S0⟩, ⟨%f1, S1⟩, ⟨%f2, S2⟩⟩, -⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexists (f0, f1, f2)
  isplitl [S0]; · iexact S0
  isplitl [S1]; · iexact S1
  iexact S2

/-- After the last point the invariant gives it back. -/
theorem hout (c : Dev nD) : (dat1 (F := F) V c).Φ (Fin.last cfg1.N) ⊢ iprop(Pipeline.scopedRest spec1 c ∗ emp) := by
  rw [show (dat1 V c).Φ (Fin.last cfg1.N) = PhiS V c cfg1.N le_rfl from rfl, scopedRest1_eq]
  unfold PhiS others scr
  simp only [owns_whole]
  iintro ⟨⟨H0, H1, H2, H3, H4, H5, H6, H7⟩, ⟨%s0, S0, S1, S2⟩⟩
  isplitl [H0 H1 H2 H3 H4 H5 H6 H7 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexists _; iexact S0
    isplitl [S1]; · iexists _; iexact S1
    iexists _; iexact S2
  iempintro

end Cert.KernelIdeal.Gcn

end
-- ==== Proof.KI.Run.lean ====
module

public import proofs.«01_k».proof.Proof.KI.EmaDat
public import proofs.«01_k».proof.Proof.KI.GcnDat
public import proofs.«01_k».proof.Proof.Gen.KernelIdeal.Regions
public import Idealize.ShloMosaic.Lib.Pipeline.RegionArraysS
public import Idealize.ShloMosaic.Lib.Pipeline.Regions

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window Seg HostSeg RegionSeg LevelCut afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first region finds. -/
abbrev W0 (c : Dev nD) (b : Ref sig .tc) : Buf (Elt F) ((c : Thread nD τ).loc b) := V1 m c b

/-- What the first region leaves. -/
def outs0 : Outs (F := F) := fun _ r c => afterRegion (Ema.dat0 (W0 m) c) (V1 m c) r

/-- What the second region finds. -/
abbrev W1 (c : Dev nD) (b : Ref sig .tc) : Buf (Elt F) ((c : Thread nD τ).loc b) := V3 m (outs0 m) c b

/-- What the regions leave. -/
def outs : Outs (F := F) := fun J r c => match J with
  | 2 => outs0 m 2 r c
  | _ => afterRegion (Gcn.dat1 (W1 m) c) (V3 m (outs0 m) c) r

/-- The second call's inputs do not depend on what it returns. -/
theorem V3_outs (c : Dev nD) : V3 m (outs m) c = V3 m (outs0 m) c := rfl

/-- The regions' proof data. -/
def pdats : (p : Fin 2) → (c : Dev nD) → Dat τ (Elt F) Unit ℕ (UR sig nD τ) ℕ (cfgs p) c
  | 0, c => Ema.dat0 (W0 m) c
  | 1, c => Gcn.dat1 (W1 m) c

/-- A level at every cell of the TensorCores, all equal: nothing is owed. -/
def L : GSem nD τ sig → Finset Unit := fun g => if g.1.2 = .tc then {()} else ∅
abbrev lv : GSem nD τ sig → Unit → ℕ := fun _ _ => 0

/-- Nothing is owed at any counter. -/
theorem levels (p : Fin 2) : LevelCut (pcfgs (F := F)) adm () L lv p (fun _ => (0 : CellTallies nD τ sig Unit)) (fun _ => 0) where
  hι c w s := by unfold L; rw [if_pos rfl]; exact Finset.mem_singleton_self _
  hιb c w s := Nat.le_refl 0
  hD c g i h := absurd h (by simp)

/-- What rides beside the buffers: nothing owed. -/
abbrev E (_ : Fin 3) (c : Dev nD) : sProp 𝕄 := iprop(∃ W, owes (c : Thread nD τ) (0 : CellTallies nD τ sig Unit) W)

set_option backward.isDefEq.respectTransparency.types false in
/-- The first region, as a segment. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => iprop(emp)) (fun _ => iprop(emp))
    launch0.toP rfl (fun c => Ema.body_obligation (W0 m) c) (fun _ _ => rfl) (fun _ => rfl) (fun c => (pdats m 0 c).share_full fun _ => rfl)
    (fun c => Ema.hin (W0 m) c) (fun c => Ema.hout (W0 m) c) (fun _ => 0) (levels 0) (fun _ => iprop(emp)) (V1 m) (fun c w => Ema.A_eq (W0 m) c w)

set_option backward.isDefEq.respectTransparency.types false in
/-- The second region, as a segment. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) (fun _ => iprop(emp)) (fun _ => iprop(emp))
    launch1.toP rfl (fun c => (Gcn.body_obligation (W1 m) c).loose) (fun _ _ => rfl) (fun _ => rfl) (fun c => (pdats m 1 c).share_full fun _ => rfl)
    (fun c => Gcn.hin (W1 m) c) (fun c => Gcn.hout (W1 m) c) (fun _ => 0) (levels 1) (fun _ => iprop(emp)) (V3 m (outs0 m)) (fun c w => Gcn.A_eq (W1 m) c w)

/-- The call's arrays are buffers of the device. -/
theorem hS0 : Pipeline.arrRefs (τ := τ) (pcfgs (F := F) 0).spec ⊆ Pipeline.ucRefs τ sig :=
  Pipeline.arrRefs_sub_ucRefs (τ := τ) spec0 (by decide)
/-- The call's arrays are buffers of the device. -/
theorem hS1 : Pipeline.arrRefs (τ := τ) (pcfgs (F := F) 1).spec ⊆ Pipeline.ucRefs τ sig :=
  Pipeline.arrRefs_sub_ucRefs (τ := τ) spec1 (by decide)

/-- Every other window of the call is only read. -/
theorem out_only0 : ∀ w : Fin cfg0.W, Pipeline.arrRef spec0 w ≠ main_v5_0 → Pipeline.arrRef spec0 w ≠ main_v5_1 → (cfg0.win w).isOut = false :=
  (by decide : ∀ w : Fin 6, Pipeline.arrRef spec0 w ≠ main_v5_0 → Pipeline.arrRef spec0 w ≠ main_v5_1 → (spec0 w).isOut = false)
/-- Every other window of the call is only read. -/
theorem out_only1 : ∀ w : Fin cfg1.W, Pipeline.arrRef spec1 w ≠ main_v8 → (cfg1.win w).isOut = false :=
  (by decide : ∀ w : Fin 9, Pipeline.arrRef spec1 w ≠ main_v8 → (spec1 w).isOut = false)

/-- Every unscoped buffer is a reference's. -/
theorem exists_ref {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

/-- The first region changes its two results only. -/
theorem after0 (c : Dev nD) : ∀ b ∈ Pipeline.ucRefs τ sig, afterRegion (Ema.dat0 (W0 m) c) (V1 m c) b = V2 m (outs m) c b := by
  intro b hb
  obtain ⟨r, rfl⟩ := exists_ref hb
  by_cases h1 : r = main_v5_1
  · subst h1; exact (Function.update_self (Proc.devRef .tc main_v5_1) (outs m 2 main_v5_1 c) (Function.update (V1 m c) main_v5_0 (outs m 2 main_v5_0 c))).symm
  by_cases h0 : r = main_v5_0
  · subst h0
    refine Eq.trans ?_ (Function.update_of_ne (StableHlo.devRef_ne_of_ne h1) (outs m 2 main_v5_1 c) (Function.update (V1 m c) main_v5_0 (outs m 2 main_v5_0 c))).symm
    exact (Function.update_self (Proc.devRef .tc main_v5_0) (outs m 2 main_v5_0 c) (V1 m c)).symm
  · rw [V2_of m (outs m) c r (by simp [h0, h1])]
    exact Pipeline.afterRegion_keeps _ _ launch0.win.arr_inj (fun w => Ema.A_eq (W0 m) c w) r fun w e => out_only0 w (e ▸ h0) (e ▸ h1)

/-- The second region changes its result only. -/
theorem after1 (c : Dev nD) : ∀ b ∈ Pipeline.ucRefs τ sig, afterRegion (Gcn.dat1 (W1 m) c) (V3 m (outs0 m) c) b = V4 m (outs m) c b := by
  intro b hb
  obtain ⟨r, rfl⟩ := exists_ref hb
  by_cases h1 : r = main_v8
  · subst h1; exact (Function.update_self (Proc.devRef .tc main_v8) (outs m 4 main_v8 c) (V3 m (outs m) c)).symm
  · rw [V4_of m (outs m) c r (by simp [h1])]
    exact Pipeline.afterRegion_keeps _ _ launch1.win.arr_inj (fun w => Gcn.A_eq (W1 m) c w) r fun w e => out_only1 w (e ▸ h1)

/-- What is held before the call gives what the call needs. -/
theorem hpre0 (c : Dev nD) : iprop(StableHlo.held (c : Thread nD τ) (Pipeline.ucRefs τ sig) (V1 m c) ∗ E 0 c) ⊢ (R0 m).pre c := by
  refine BIBase.Entails.trans ?_ (RegionSeg.ofHeldIn_pre hS0 c)
  iintro ⟨H, HO⟩
  isplitl [H]; · iexact H
  isplitl [HO]; · iexact HO
  isplitl []; · iempintro
  iempintro

/-- What the call leaves gives what is held after it. -/
theorem hpost0 (c : Dev nD) : (R0 m).post c ⊢ iprop(StableHlo.held (c : Thread nD τ) (Pipeline.ucRefs τ sig) (V2 m (outs m) c) ∗ E 1 c) := by
  refine BIBase.Entails.trans (RegionSeg.ofHeldIn_post hS0 c) ?_
  rw [StableHlo.held_congr (c.tc : Thread nD τ) (V := afterRegion (pdats m 0 c) (V1 m c)) (V' := V2 m (outs m) c) (after0 m c)]
  iintro ⟨H, HO, -⟩
  isplitl [H]; · iexact H
  iexact HO

/-- What is held before the call gives what the call needs. -/
theorem hpre1 (c : Dev nD) : iprop(StableHlo.held (c : Thread nD τ) (Pipeline.ucRefs τ sig) (V3 m (outs m) c) ∗ E 1 c) ⊢ (R1 m).pre c := by
  refine BIBase.Entails.trans ?_ (RegionSeg.ofHeldIn_pre hS1 c)
  iintro ⟨H, HO⟩
  isplitl [H]; · iexact H
  isplitl [HO]; · iexact HO
  isplitl []; · iempintro
  iempintro

/-- What the call leaves gives what is held after it. -/
theorem hpost1 (c : Dev nD) : (R1 m).post c ⊢ iprop(StableHlo.held (c : Thread nD τ) (Pipeline.ucRefs τ sig) (V4 m (outs m) c) ∗ E 2 c) := by
  refine BIBase.Entails.trans (RegionSeg.ofHeldIn_post hS1 c) ?_
  rw [StableHlo.held_congr (c.tc : Thread nD τ) (V := afterRegion (pdats m 1 c) (V3 m (outs0 m) c)) (V' := V4 m (outs m) c) (after1 m c)]
  iintro ⟨H, HO, -⟩
  isplitl [H]; · iexact H
  iexact HO

set_option backward.isDefEq.respectTransparency.types false in
/-- Every weakly fair execution terminates without a fault, every semaphore counter ends at zero, and every unscoped buffer ends at the last valuation. -/
theorem run :
    θ_run defs (onTc (τ := τ) (main (F := F))) ⟨m, fun _ => 0, ρ⟩ (fun r =>
      (∀ c : Dev nD, ∀ b ∈ Pipeline.ucRefs τ sig, r.2.mem (c, b) = V5 m (outs m) c b) ∧ r.2.sem = fun _ => 0) := by
  refine Pipeline.θ_run_regions_kit_dev_sems (pcfgs (F := F)) adm (pdats m) () cellOf_inj (emb₁ : Emb (UR sig nD τ) 𝕄) defs₀ Variants.none L lv m ρ main
    (segs m (outs m) Variants.none L lv E () (pdats m) (R0 m) (R1 m))
    (fun c Q => by
      rewrite [main_chain c, Seg.run_eq_chain,
        show (segs m (outs m) Variants.none L lv E () (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => by unfold L; rw [if_neg hg]) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, hpre0 m c, hpost0 m c, hpre1 m c, hpost1 m c, sep_mono .rfl .rfl⟩)
    (hinit := ?_) (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr; · ipureintro; exact h
    iexact HSI

/-- An unscoped reference's buffer is one the run's account covers. -/
theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- Every argument ends as launched. -/
def Kept (c : Dev nD) (r : PUnit × MemSt nD τ sig (Elt F)) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)

/-- The last valuation keeps every argument. -/
theorem kept_of (c : Dev nD) (r : PUnit × MemSt nD τ sig (Elt F)) (h : ∀ b ∈ Pipeline.ucRefs τ sig, r.2.mem (c, b) = V5 m (outs m) c b) : Kept m c r :=
  ⟨(h _ (mem_uc main_arg0 (by decide))).trans (V5_main_arg0 m (outs m) c),
    (h _ (mem_uc main_arg1 (by decide))).trans (V5_main_arg1 m (outs m) c),
    (h _ (mem_uc main_arg2 (by decide))).trans (V5_main_arg2 m (outs m) c),
    (h _ (mem_uc main_arg3 (by decide))).trans (V5_main_arg3 m (outs m) c),
    (h _ (mem_uc main_arg4 (by decide))).trans (V5_main_arg4 m (outs m) c),
    (h _ (mem_uc main_arg5 (by decide))).trans (V5_main_arg5 m (outs m) c),
    (h _ (mem_uc main_arg6 (by decide))).trans (V5_main_arg6 m (outs m) c),
    (h _ (mem_uc main_arg7 (by decide))).trans (V5_main_arg7 m (outs m) c),
    (h _ (mem_uc main_arg8 (by decide))).trans (V5_main_arg8 m (outs m) c),
    (h _ (mem_uc main_arg9 (by decide))).trans (V5_main_arg9 m (outs m) c)⟩

/-- The frame: termination, no fault, the arguments as launched, the counters at zero. -/
theorem quiescent : θ_run defs (onTc (τ := τ) (main (F := F))) ⟨m, fun _ => 0, ρ⟩ (fun r => (∀ c : Dev nD, Kept m c r) ∧ r.2.sem = fun _ => 0) :=
  (θ_run _ _ _).mono (fun r h => ⟨fun c => kept_of m c r (h.1 c), h.2⟩) (run m ρ)

end Cert.KernelIdeal.Run

end
-- ==== Proof.Ref.Run.lean ====
module

public import proofs.«01_k».proof.Proof.Gen.ReferenceIdeal.Run
public import Idealize.ShloMosaic.Lib.Quiescent

@[expose] public section

set_option maxRecDepth 16384

noncomputable section

namespace Cert.ReferenceIdeal.Ref

open Idealize.ShloMosaic Idealize.ShloMosaic.TcCoe Idealize.ShloMosaic.StableHlo
open Idealize.SL Idealize.SL.Sem
open Cert.ReferenceIdeal.Gen Cert.ReferenceIdeal.Value

variable {F : FTy → Type} [FloatOps F]
variable (m : (ℓ : Loc nD τ sig) → Buf (Elt F) ℓ) (ρ : Dev nD → PrngReg)

/-- What the operations before the loop write. -/
abbrev preW : List (Ref sig .tc) := hostOps0_W ++ hostOps0_1_W ++ hostOps0_2_W
/-- What one trip writes. -/
abbrev tripW : List (Ref sig .tc) := condOps_W ++ while0Ops0_W ++ while0Ops0_1_W ++ while0Ops0_2_W

/-- A buffer nothing before the loop writes enters the loop as launched. -/
theorem entry_keep (c : Dev nD) (r : Ref sig .tc) (h : r ∉ preW) : entryContents preI m c (Proc.devRef .tc r) = m ((c : Thread nD τ).loc r) := by
  simp only [preW, List.mem_append, not_or] at h
  exact (after_of_writes_sub hostOps0_2 _ hostOps0_2_writes h.2).trans
    ((after_of_writes_sub hostOps0_1 _ hostOps0_1_writes h.1.2).trans ((after_of_writes_sub hostOps0 _ hostOps0_writes h.1.1).trans rfl))

/-- A buffer no operation of the loop writes is left by `k` trips as the loop found it. -/
theorem loop_keep (c : Dev nD) (r : Ref sig .tc) (h : r ∉ tripW) : ∀ k, atK m k c (Proc.devRef .tc r) = entryContents preI m c (Proc.devRef .tc r)
  | 0 => rfl
  | k + 1 => by
    have h' := h
    simp only [tripW, List.mem_append, not_or] at h'
    exact (after_of_writes_sub while0Ops0_2 _ while0Ops0_2_writes h'.2).trans
      ((after_of_writes_sub while0Ops0_1 _ while0Ops0_1_writes h'.1.2).trans
        ((after_of_writes_sub while0Ops0 _ while0Ops0_writes h'.1.1.2).trans
          ((after_of_writes_sub condOps _ condOps_writes h'.1.1.1).trans (loop_keep c r h k))))

/-- A buffer neither the loop nor what follows it writes ends as the loop found it. -/
theorem final_entry (c : Dev nD) (r : Ref sig .tc) (h : r ∉ tripW) (h3 : r ∉ hostOps0_3_W) :
    finalContents condOps preI bodyI postI 256 m c (Proc.devRef .tc r) = entryContents preI m c (Proc.devRef .tc r) := by
  have h' := h
  simp only [tripW, List.mem_append, not_or] at h'
  exact (after_of_writes_sub hostOps0_3 _ hostOps0_3_writes h3).trans
    ((after_of_writes_sub condOps _ condOps_writes h'.1.1.1).trans (loop_keep m c r h 256))

/-- A buffer nothing writes ends as launched. -/
theorem final_keep (c : Dev nD) (r : Ref sig .tc) (h0 : r ∉ preW) (h : r ∉ tripW) (h3 : r ∉ hostOps0_3_W) :
    finalContents condOps preI bodyI postI 256 m c (Proc.devRef .tc r) = m ((c : Thread nD τ).loc r) :=
  (final_entry m c r h h3).trans (entry_keep m c r h0)

/-- Every argument ends as launched. -/
def Kept (c : Dev nD) (r : PUnit × MemSt nD τ sig (Elt F)) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)

/-- The fold keeps every argument. -/
theorem kept_of (c : Dev nD) (r : PUnit × MemSt nD τ sig (Elt F)) (h : ∀ b : Ref sig .tc, (Proc.devRef .tc b : DevRef τ sig).isScoped = false →
      r.2.mem ((c.tc : Thread nD τ).loc b) = finalContents condOps preI bodyI postI 256 m c (Proc.devRef .tc b)) : Kept m c r :=
  ⟨(h main_arg0 rfl).trans (final_keep m c main_arg0 (by decide +kernel) (by decide +kernel) (by decide +kernel)),
    (h main_arg1 rfl).trans (final_keep m c main_arg1 (by decide +kernel) (by decide +kernel) (by decide +kernel)),
    (h main_arg2 rfl).trans (final_keep m c main_arg2 (by decide +kernel) (by decide +kernel) (by decide +kernel)),
    (h main_arg3 rfl).trans (final_keep m c main_arg3 (by decide +kernel) (by decide +kernel) (by decide +kernel)),
    (h main_arg4 rfl).trans (final_keep m c main_arg4 (by decide +kernel) (by decide +kernel) (by decide +kernel)),
    (h main_arg5 rfl).trans (final_keep m c main_arg5 (by decide +kernel) (by decide +kernel) (by decide +kernel)),
    (h main_arg6 rfl).trans (final_keep m c main_arg6 (by decide +kernel) (by decide +kernel) (by decide +kernel)),
    (h main_arg7 rfl).trans (final_keep m c main_arg7 (by decide +kernel) (by decide +kernel) (by decide +kernel)),
    (h main_arg8 rfl).trans (final_keep m c main_arg8 (by decide +kernel) (by decide +kernel) (by decide +kernel)),
    (h main_arg9 rfl).trans (final_keep m c main_arg9 (by decide +kernel) (by decide +kernel) (by decide +kernel))⟩

/-- The frame: termination, no fault, the arguments as launched, the counters at zero. -/
theorem quiescent : θ_run (defs (F := F)) (onTc (τ := τ) (main (F := F))) ⟨m, fun _ => 0, ρ⟩ (fun r => (∀ c : Dev nD, Kept m c r) ∧ r.2.sem = fun _ => 0) :=
  (θ_run _ _ _).mono (fun r h => ⟨fun c => kept_of m c r (h c), sem_eq_zero_of_no_sems rfl r.2⟩) (run_fold m ρ)

end Cert.ReferenceIdeal.Ref

end
-- ==== Proof.Val.PayE.lean ====
module

public import proofs.«01_k».proof.Proof.Gen.KernelIdeal.Skeleton
public import Idealize.ShloMosaic.Lib.Pointwise

@[expose] public section

set_option maxRecDepth 16384

noncomputable section

namespace Cert.KernelIdeal.Val

open Idealize.ShloMosaic Cert.KernelIdeal.Gen

/-- A comparison turned into a number is one or zero. -/
theorem sitofp_flag (P : Prop) [Decidable P] (q : CmpIPredicate) (x y : BitVec 32) (h : IntOp.cmpi q x y = if P then 1#1 else 0#1) :
    (FloatOps.sitofp (F := Ideal) FTy.f32 (BitVec.setWidth 32 (IntOp.cmpi q x y)) : EReal) = if P then 1 else 0 := by
  rw [h]; split
  · show (((BitVec.setWidth 32 1#1).toInt : ℝ) : EReal) = 1
    have : (BitVec.setWidth 32 1#1).toInt = 1 := by decide
    rw [this]; simp
  · show (((BitVec.setWidth 32 0#1).toInt : ℝ) : EReal) = 0
    have : (BitVec.setWidth 32 0#1).toInt = 0 := by decide
    rw [this]; simp

/-- The equality comparison, as a flag. -/
theorem cmpi_eq_flag (x y : BitVec 32) : IntOp.cmpi CmpIPredicate.eq x y = if x = y then 1#1 else 0#1 := by
  show BitVec.ofBool (x == y) = _
  by_cases h : x = y
  · simp [h]
  · simp [h, beq_eq_false_iff_ne.mpr h]

/-- Small positions compared with their order. -/
theorem cmpi_sgt_flag (a b : Nat) (ha : a < 256) (hb : b < 256) :
    IntOp.cmpi CmpIPredicate.sgt (BitVec.ofNat 32 a) (BitVec.ofNat 32 b) = if b < a then 1#1 else 0#1 := by
  have e : (BitVec.ofNat 32 b).slt (BitVec.ofNat 32 a) = decide (b < a) := by
    rw [BitVec.slt_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  unfold IntOp.cmpi; simp only [e]; by_cases h : b < a <;> simp [h]

/-- Whether a sample's class is the row's. -/
theorem hit_apply (i : grid0.Coords) (t : IVec S1x256 32) (r : Fin 128) (j : Fin 256) :
    k0_pay3 (F := Ideal) i t (ix2 r j) = if 128 * (i 0).val + r.val = (t (ix2 0 j)).toNat then 1 else 0 := by
  have hi : (i 0).val < 8 := (i 0).isLt
  pointwise [k0_pay3, k0_pay2]
  refine sitofp_flag _ _ _ _ ?_
  rw [cmpi_eq_flag]
  refine if_congr ?_ rfl rfl
  rw [← BitVec.toNat_inj]
  have : (IntOp.addi (Scalar.muli (BitVec.ofNat 32 (i 0).val) 128#32) (BitVec.ofNat 32 r.val)).toNat = 128 * (i 0).val + r.val := by
    show (BitVec.ofNat 32 (i 0).val * 128#32 + BitVec.ofNat 32 r.val).toNat = _
    have := r.isLt
    simp only [BitVec.toNat_add, BitVec.toNat_mul, BitVec.toNat_ofNat]
    omega
  rw [this]

/-- The factor a row's prototypes keep. -/
theorem scale_apply (i : grid0.Coords) (t : IVec S1x256 32) (r : Fin 128) :
    k0_pay4 (F := Ideal) i t (ix2 r 0) = Ideal.pow (Ideal.ofBits .f32 0x3F7FBE77#32) (∑ j : Fin 256, k0_pay3 (F := Ideal) i t (ix2 r j)) := by
  pointwise [k0_pay4]

/-- The weight of a sample in a row. -/
theorem weight_apply (i : grid0.Coords) (t : IVec S1x256 32) (r : Fin 128) (j : Fin 256) :
    k0_pay5 (F := Ideal) i t (ix2 r j) = k0_pay3 (F := Ideal) i t (ix2 r j) *
      (Ideal.ofBits .f32 0x3A83126F#32 * Ideal.pow (Ideal.ofBits .f32 0x3F7FBE77#32) (∑ k : Fin 256, if j.val < k.val ∧ t (ix2 0 j) = t (ix2 0 k) then 1 else 0)) := by
  pointwise [k0_pay5, k0_pay2]
  congr 3
  refine Finset.sum_congr rfl fun k _ => ?_
  rw [cmpi_sgt_flag _ _ k.isLt j.isLt, sitofp_flag _ _ _ _ (cmpi_eq_flag _ _)]
  by_cases h : j.val < k.val <;> simp [h, Scalar.select]

end Cert.KernelIdeal.Val

end
-- ==== Proof.Val.PayG.lean ====
module

public import proofs.«01_k».proof.Proof.Gen.KernelIdeal.Skeleton
public import Idealize.ShloMosaic.Lib.Pointwise

@[expose] public section

set_option maxRecDepth 16384

noncomputable section

namespace Cert.KernelIdeal.Val

open Idealize.ShloMosaic Cert.KernelIdeal.Gen

/-- The hidden layer: the first row of the adjacency summed, times the rectified product. -/
theorem pay1_apply (a : FVec Ideal S5x5 .f32) (xb : FVec Ideal S256x2048 .f32) (w : FVec Ideal S2048x1024 .f32) (b : Fin 256) (h : Fin 1024) :
    k1_pay1 (F := Ideal) a xb w (ix2 b h) = (∑ k : Fin 5, a (ix2 0 k)) * max (∑ d : Fin 2048, xb (ix2 b d) * w (ix2 d h)) 0 := by
  pointwise [k1_pay1]

/-- The bias, the same for every sample. -/
theorem pay2_apply (v : FVec Ideal S1x2048 .f32) (b : Fin 256) (k : Fin 2048) : k1_pay2 (F := Ideal) v (ix2 b k) = v (ix2 0 k) := by
  pointwise [k1_pay2]

/-- One block's addition to the running product. -/
theorem pay3_apply (wg : FVec Ideal S5x256x2048 .f32) (h : FVec Ideal S256x1024 .f32) (w2 : FVec Ideal S1024x256 .f32) (g : FVec Ideal S256x2048 .f32) (b : Fin 256) (k : Fin 2048) :
    k1_pay3 (F := Ideal) wg h w2 g (ix2 b k)
      = g (ix2 b k) + ∑ d : Fin 256, (∑ e : Fin 1024, h (ix2 b e) * w2 (ix2 e d)) * (∑ n : Fin 5, wg (ix3 n d k)) := by
  pointwise [k1_pay3]

/-- A block of the classifier goes in as it is. -/
theorem pay4_eq (v : FVec Ideal S1000x256 .f32) (c : Fin 1000) (k : Fin 256) : k1_pay4 (F := Ideal) v (ix2 c k) = v (ix2 c k) := by
  pointwise [k1_pay4]

/-- The transposed prediction. -/
theorem pay5_apply (wc : FVec Ideal S1000x2048 .f32) (g : FVec Ideal S256x2048 .f32) (bc : FVec Ideal S1x1000 .f32) (c : Fin 1000) (b : Fin 256) :
    k1_pay5 (F := Ideal) wc g bc (ix2 c b) = (∑ k : Fin 2048, wc (ix2 c k) * g (ix2 b k)) + bc (ix2 0 c) := by
  pointwise [k1_pay5]

/-- The weighted sum of the five region nodes' features. -/
theorem xbar_apply (a : FVec Ideal S5x5 .f32) (x0 x1 x2 x3 x4 : FVec Ideal S1x256x2048 .f32) (b : Fin 256) (d : Fin 2048) :
    k0_pay1 (F := Ideal) a x0 x1 x2 x3 x4 (ix2 b d)
      = a (ix2 0 0) * x0 (ix3 0 b d) + a (ix2 0 1) * x1 (ix3 0 b d) + a (ix2 0 2) * x2 (ix3 0 b d) + a (ix2 0 3) * x3 (ix3 0 b d) + a (ix2 0 4) * x4 (ix3 0 b d) := by
  pointwise [k0_pay1]

end Cert.KernelIdeal.Val

end
-- ==== Proof.Val.EmaVal.lean ====
module

public import proofs.«01_k».proof.Proof.KI.EmaDat
public import proofs.«01_k».proof.Proof.Val.PayE
public import proofs.«01_k».proof.Proof.Val.PayG
public import Idealize.ShloMosaic.Lib.Pipeline.FrameTail
public import Idealize.ShloMosaic.Lib.Pipeline.ValueKit.Geometry
public import Idealize.ShloMosaic.Lib.Pointwise.IndexBridge

@[expose] public section

set_option maxRecDepth 16384

noncomputable section

namespace Cert.KernelIdeal.Val

open Idealize.ShloMosaic Idealize.ShloMosaic.TcCoe Cert.KernelIdeal.Gen
open Idealize.ShloMosaic.Pipeline (Window Dat)

/-- Whether sample `j` is of class `r`, as a number. -/
def hitN (t : Fin 256 → BitVec 32) (r : ℕ) (j : Fin 256) : EReal := if r = (t j).toNat then 1 else 0

/-- How many later samples share sample `j`'s class. -/
def laterN (t : Fin 256 → BitVec 32) (j : Fin 256) : EReal := ∑ k : Fin 256, if j.val < k.val ∧ t j = t k then 1 else 0

/-- A class's slice before the normalisation, from its old value `p` and the samples' features `x`. -/
def mixV (t : Fin 256 → BitVec 32) (r : ℕ) (p : EReal) (x : Fin 256 → EReal) : EReal :=
  Ideal.pow (Ideal.ofBits .f32 0x3F7FBE77#32) (∑ j : Fin 256, hitN t r j) * p
    + ∑ j : Fin 256, (hitN t r j * (Ideal.ofBits .f32 0x3A83126F#32 * Ideal.pow (Ideal.ofBits .f32 0x3F7FBE77#32) (laterN t j))) * x j

/-- The five slices of a class at one lane, normalised. -/
def normV (u : Fin 5 → EReal) (n : Fin 5) : EReal :=
  Ideal.div (u n) (max (Ideal.sqrt (u 0 * u 0 + u 1 * u 1 + u 2 * u 2 + u 3 * u 3 + u 4 * u 4)) (Ideal.ofBits .f32 0x2B8CBCCC#32))

/-- A mixed prototype, entry by entry. -/
theorem upd_apply (i : grid0.Coords) (x0 : IVec S1x256 32) (x2 : FVec Ideal S5x256x2048 .f32) (x3 : FVec Ideal S5x128x2048 .f32) (n : Fin 5) (r : Fin 128) (d : Fin 2048) :
    Ema.upd (F := Ideal) i x0 x2 x3 n (ix2 r d) = mixV (fun j => x0 (ix2 0 j)) (128 * (i 0).val + r.val) (x3 (ix3 n r d)) (fun j => x2 (ix3 n j d)) := by
  have e : Ema.mixn (F := Ideal) i x0 x2 n (ix2 r d) = ∑ j : Fin 256, k0_pay5 (F := Ideal) i x0 (ix2 r j) * Ema.sxn (F := Ideal) n x2 (ix2 j d) := by
    pointwise [Ema.mixn]
  show FloatOps.addf (FloatOps.mulf (k0_pay4 (F := Ideal) i x0 (ValueIdx.ix2 r (0 : Fin 1))) (x3 (ValueIdx.ix3 n r d))) (Ema.mixn (F := Ideal) i x0 x2 n (ix2 r d)) = _
  rw [e, ← ix2_eq_valueIdx, ← ix3_eq_valueIdx, scale_apply]
  simp only [weight_apply, hit_apply]
  unfold mixV hitN laterN
  have e2 : ∀ j, Ema.sxn (F := Ideal) n x2 (ix2 j d) = x2 (ix3 n j d) := fun j => by
    show x2 (ValueIdx.ix3 n j d) = _
    rw [← ix3_eq_valueIdx]
  simp only [e2]
  rfl

/-- The block of new prototypes, entry by entry. -/
theorem protoBlk_val (i : grid0.Coords) (x0 : IVec S1x256 32) (x2 : FVec Ideal S5x256x2048 .f32) (x3 : FVec Ideal S5x128x2048 .f32) (n : Fin 5) (r : Fin 128) (d : Fin 2048) :
    Ema.protoBlk (F := Ideal) i x0 x2 x3 (ix3 n r d) = normV (fun m => mixV (fun j => x0 (ix2 0 j)) (128 * (i 0).val + r.val) (x3 (ix3 m r d)) (fun j => x2 (ix3 m j d))) n := by
  rw [Ema.protoBlk_apply]
  show FloatOps.divf (Ema.upd (F := Ideal) i x0 x2 x3 n (ValueIdx.ix2 r d)) (Ema.nrm (F := Ideal) i x0 x2 x3 (ValueIdx.ix2 r d)) = _
  rw [← ix2_eq_valueIdx]
  unfold Ema.nrm normV
  simp only [upd_apply]
  rfl

variable (V : (c : Dev nD) → (b : Ref sig .tc) → Buf (Elt Ideal) ((c : Thread nD τ).loc b)) (c : Dev nD)

/-- Where window 0 stands in its array at each grid step. -/
theorem ix0_0 : ∀ (t : Fin cfg0.N) (a : Fin 2), (cfg0.win 0).index t a = 0 :=
  (by decide +kernel : ∀ (t : Fin grid0.N) (a : Fin 2), win0_0.index t a = 0)
/-- Where window 1 stands in its array at each grid step. -/
theorem ix0_1 : ∀ (t : Fin cfg0.N) (a : Fin 2), (cfg0.win 1).index t a = 0 :=
  (by decide +kernel : ∀ (t : Fin grid0.N) (a : Fin 2), win0_1.index t a = 0)
/-- Where window 2 stands in its array at each grid step. -/
theorem ix0_2 : ∀ (t : Fin cfg0.N) (a : Fin 3), (cfg0.win 2).index t a = 0 :=
  (by decide +kernel : ∀ (t : Fin grid0.N) (a : Fin 3), win0_2.index t a = 0)
/-- Where window 3 stands in its array at each grid step. -/
theorem ix0_3 : ∀ (t : Fin cfg0.N) (a : Fin 3), (cfg0.win 3).index t a = ![0, t.val, 0] a :=
  (by decide +kernel : ∀ (t : Fin grid0.N) (a : Fin 3), win0_3.index t a = ![0, t.val, 0] a)
/-- Where window 4 stands in its array at each grid step. -/
theorem ix0_4 : ∀ (t : Fin cfg0.N) (a : Fin 3), (cfg0.win 4).index t a = ![0, t.val, 0] a :=
  (by decide +kernel : ∀ (t : Fin grid0.N) (a : Fin 3), win0_4.index t a = ![0, t.val, 0] a)
/-- Where window 5 stands in its array at each grid step. -/
theorem ix0_5 : ∀ (t : Fin cfg0.N) (a : Fin 2), (cfg0.win 5).index t a = 0 :=
  (by decide +kernel : ∀ (t : Fin grid0.N) (a : Fin 2), win0_5.index t a = 0)
/-- How much of the prototypes' window lies inside the array. -/
theorem xs0_3 : ∀ (t : Fin cfg0.N) (a : Fin 3), (cfg0.win 3).xsize (cfg0.grid.coords t) a = ![5, min 128 (1000 - 128 * t.val), 2048] a :=
  (by decide +kernel : ∀ (t : Fin grid0.N) (a : Fin 3), win0_3.xsize (grid0.coords t) a = ![5, min 128 (1000 - 128 * t.val), 2048] a)
/-- The grid's coordinate is the step's number. -/
theorem coord0 : ∀ t : Fin cfg0.N, (grid0.coords t 0).val = t.val :=
  (by decide +kernel : ∀ t : Fin grid0.N, (grid0.coords t 0).val = t.val)

/-- A window as large as its array holds the array. -/
theorem e0 (t : Fin cfg0.N) : Ema.iblk V c 0 t = V c main_v3 := by
  funext y
  show V c main_v3 (((cfg0.win 0).rect t).emb y) = _
  congr 1; funext a; apply Fin.ext
  exact Window.rect_emb_val_of_index_zero _ t a (ix0_0 t a) y

/-- A window as large as its array holds the array. -/
theorem e1 (t : Fin cfg0.N) : Ema.iblk V c 1 t = V c main_arg3 := by
  funext y
  show V c main_arg3 (((cfg0.win 1).rect t).emb y) = _
  congr 1; funext a; apply Fin.ext
  exact Window.rect_emb_val_of_index_zero _ t a (ix0_1 t a) y

/-- A window as large as its array holds the array. -/
theorem e2 (t : Fin cfg0.N) : Ema.iblk V c 2 t = V c main_v0 := by
  funext y
  show V c main_v0 (((cfg0.win 2).rect t).emb y) = _
  congr 1; funext a; apply Fin.ext
  exact Window.rect_emb_val_of_index_zero _ t a (ix0_2 t a) y

/-- The old prototypes' block at its rows inside the array. -/
theorem e3 (t : Fin cfg0.N) (n : Fin 5) (r : Fin 128) (d : Fin 2048) (h : 128 * t.val + r.val < 1000) :
    Ema.pblk V c t (ix3 n r d) = V c main_v1 (ix3 n (⟨128 * t.val + r.val, h⟩ : Fin 1000) d) := by
  have hm : (cfg0.win 3).moved (cfg0.grid.coords t) (ix3 n r d) = true := by
    rw [Window.moved_iff]
    intro a
    rw [xs0_3 t a]
    fin_cases a
    · exact n.isLt
    · have := r.isLt
      show r.val < min 128 (1000 - 128 * t.val)
      omega
    · exact d.isLt
  unfold Ema.pblk Window.fill
  rw [dif_pos hm]
  show V c main_v1 (((cfg0.win 3).rect t).emb _) = _
  congr 1; funext a; apply Fin.ext
  refine (Window.rect_emb_val _ t _ a).trans ?_
  rw [ix0_3 t a]
  fin_cases a
  · show 0 * 5 + n.val = n.val; omega
  · show t.val * 128 + r.val = 128 * t.val + r.val; omega
  · show 0 * 2048 + d.val = d.val; omega

/-- The new prototypes, slices first. -/
def protoG (t : IVec S1x256 32) (x : FVec Ideal S5x256x2048 .f32) (p : FVec Ideal S5x1000x2048 .f32) : FVec Ideal S5x1000x2048 .f32 := fun y =>
  normV (fun m => mixV (fun j => t (ix2 0 j)) (y 1).val (p (ix3 m (y 1) (y 2))) (fun j => x (ix3 m j (y 2)))) (y 0)

/-- The first region leaves the new prototypes in its first result. -/
theorem arr4 : (Ema.dat0 V c).arrAt 4 cfg0.N = protoG (V c main_v3) (V c main_v0) (V c main_v1) := by
  refine Dat.arrAt_eq_of_covers (cfg := cfg0) (Ema.dat0 V c) 4 (protoG (V c main_v3) (V c main_v0) (V c main_v1)) (by decide +kernel) fun t hf y => ?_
  show (Ema.dat0 V c).after 4 t ((cfg0.win 4).xinj (cfg0.grid.coords t) y) = _
  rw [Ema.after4]
  have hb : (y (1 : Fin 3)).val < min 128 (1000 - 128 * t.val) := by
    have h := (y (1 : Fin 3)).isLt
    have h2 := (Ema.xsize_eq t 1).trans (xs0_3 t 1)
    exact lt_of_lt_of_eq h h2
  have h0 : (y (0 : Fin 3)).val < 5 := lt_of_lt_of_eq (y (0 : Fin 3)).isLt ((Ema.xsize_eq t 0).trans (xs0_3 t 0))
  have h2 : (y (2 : Fin 3)).val < 2048 := lt_of_lt_of_eq (y (2 : Fin 3)).isLt ((Ema.xsize_eq t 2).trans (xs0_3 t 2))
  have hy : (cfg0.win 4).xinj (cfg0.grid.coords t) y = ix3 (⟨(y (0 : Fin 3)).val, h0⟩ : Fin 5) (⟨(y (1 : Fin 3)).val, by omega⟩ : Fin 128) (⟨(y (2 : Fin 3)).val, h2⟩ : Fin 2048) := by
    funext a; apply Fin.ext; fin_cases a <;> rfl
  have he : (((cfg0.win 4).rect t).emb y) = ix3 (⟨(y (0 : Fin 3)).val, h0⟩ : Fin 5) (⟨128 * t.val + (y (1 : Fin 3)).val, by omega⟩ : Fin 1000) (⟨(y (2 : Fin 3)).val, h2⟩ : Fin 2048) := by
    funext a; apply Fin.ext
    refine (Window.rect_emb_val _ t _ a).trans ?_
    rw [ix0_4 t a]
    fin_cases a
    · show 0 * 5 + (y (0 : Fin 3)).val = (y (0 : Fin 3)).val; omega
    · show t.val * 128 + (y (1 : Fin 3)).val = 128 * t.val + (y (1 : Fin 3)).val; omega
    · show 0 * 2048 + (y (2 : Fin 3)).val = (y (2 : Fin 3)).val; omega
  rw [hy]
  show _ = protoG (V c main_v3) (V c main_v0) (V c main_v1) (((cfg0.win 4).rect t).emb y)
  rw [he]
  unfold Ema.newBlk
  rw [protoBlk_val, e0, e2, coord0]
  unfold protoG
  congr 1
  funext m
  rw [e3 V c t m _ _ (by show 128 * t.val + (y (1 : Fin 3)).val < 1000; omega)]
  rfl

/-- The first region leaves the aggregated features in its second result. -/
theorem arr5 : (Ema.dat0 V c).arrAt 5 cfg0.N = Ema.xb V c := by
  refine Dat.arrAt_eq_of_covers (cfg := cfg0) (Ema.dat0 V c) 5 (Ema.xb V c) (by decide +kernel) fun t hf y => ?_
  show (Ema.dat0 V c).after 5 t ((cfg0.win 5).xinj (cfg0.grid.coords t) y) = _
  rw [Ema.after5]
  show Ema.xb V c ((cfg0.win 5).xinj (cfg0.grid.coords t) y) = Ema.xb V c (((cfg0.win 5).rect t).emb y)
  congr 1; funext a; apply Fin.ext
  exact (Window.rect_emb_val_of_index_zero _ t a (ix0_5 t a) y).symm

/-- The aggregated features from the adjacency and the features, slices first. -/
def xbV (a : FVec Ideal S5x5 .f32) (x : FVec Ideal S5x256x2048 .f32) (b : Fin 256) (d : Fin 2048) : EReal :=
  a (ix2 0 0) * x (ix3 0 b d) + a (ix2 0 1) * x (ix3 1 b d) + a (ix2 0 2) * x (ix3 2 b d) + a (ix2 0 3) * x (ix3 3 b d) + a (ix2 0 4) * x (ix3 4 b d)

/-- Slice 0 of the samples, entry by entry. -/
theorem sl0 (x : FVec Ideal S5x256x2048 .f32) (b : Fin 256) (d : Fin 2048) : Ema.sx0 (F := Ideal) x (ix3 0 b d) = x (ix3 0 b d) := by
  show x _ = x _
  congr 1
  funext a
  apply Fin.ext
  show _ + 1 * _ = _
  fin_cases a <;> simp <;> rfl
/-- Slice 1 of the samples, entry by entry. -/
theorem sl1 (x : FVec Ideal S5x256x2048 .f32) (b : Fin 256) (d : Fin 2048) : Ema.sx1 (F := Ideal) x (ix3 0 b d) = x (ix3 1 b d) := by
  show x _ = x _
  congr 1
  funext a
  apply Fin.ext
  show _ + 1 * _ = _
  fin_cases a <;> simp <;> rfl
/-- Slice 2 of the samples, entry by entry. -/
theorem sl2 (x : FVec Ideal S5x256x2048 .f32) (b : Fin 256) (d : Fin 2048) : Ema.sx2 (F := Ideal) x (ix3 0 b d) = x (ix3 2 b d) := by
  show x _ = x _
  congr 1
  funext a
  apply Fin.ext
  show _ + 1 * _ = _
  fin_cases a <;> simp <;> rfl
/-- Slice 3 of the samples, entry by entry. -/
theorem sl3 (x : FVec Ideal S5x256x2048 .f32) (b : Fin 256) (d : Fin 2048) : Ema.sx3 (F := Ideal) x (ix3 0 b d) = x (ix3 3 b d) := by
  show x _ = x _
  congr 1
  funext a
  apply Fin.ext
  show _ + 1 * _ = _
  fin_cases a <;> simp <;> rfl
/-- Slice 4 of the samples, entry by entry. -/
theorem sl4 (x : FVec Ideal S5x256x2048 .f32) (b : Fin 256) (d : Fin 2048) : Ema.sx4 (F := Ideal) x (ix3 0 b d) = x (ix3 4 b d) := by
  show x _ = x _
  congr 1
  funext a
  apply Fin.ext
  show _ + 1 * _ = _
  fin_cases a <;> simp <;> rfl
/-- The neighbourhood mean of the samples, entry by entry. -/
theorem xb_apply (b : Fin 256) (d : Fin 2048) : Ema.xb V c (ix2 b d) = xbV (V c main_arg3) (V c main_v0) b d := by
  unfold Ema.xb
  rw [e1, e2]
  unfold Ema.xbar xbV
  rw [xbar_apply]
  rw [sl0, sl1, sl2, sl3, sl4]

end Cert.KernelIdeal.Val

end
-- ==== Proof.Val.BlkG.lean ====
module

public import proofs.«01_k».proof.Proof.KI.GcnDat
public import proofs.«01_k».proof.Proof.Val.PayG

@[expose] public section

set_option maxRecDepth 16384

noncomputable section

namespace Cert.KernelIdeal.Val

open Idealize.ShloMosaic Idealize.ShloMosaic.TcCoe Cert.KernelIdeal.Gen
open Idealize.ShloMosaic.Pipeline (Window)

variable (V : (c : Dev nD) → (b : Ref sig .tc) → Buf (Elt Ideal) ((c : Thread nD τ).loc b)) (c : Dev nD)

/-- Where window 0 stands in its array at each grid step. -/
theorem ix1_0 : ∀ (t : Fin cfg1.N) (a : Fin 2), (cfg1.win 0).index t a = 0 :=
  (by decide +kernel : ∀ (t : Fin grid1.N) (a : Fin 2), win1_0.index t a = 0)
/-- Where window 1 stands in its array at each grid step. -/
theorem ix1_1 : ∀ (t : Fin cfg1.N) (a : Fin 2), (cfg1.win 1).index t a = 0 :=
  (by decide +kernel : ∀ (t : Fin grid1.N) (a : Fin 2), win1_1.index t a = 0)
/-- Where window 2 stands in its array at each grid step. -/
theorem ix1_2 : ∀ (t : Fin cfg1.N) (a : Fin 2), (cfg1.win 2).index t a = 0 :=
  (by decide +kernel : ∀ (t : Fin grid1.N) (a : Fin 2), win1_2.index t a = 0)
/-- Where window 3 stands in its array at each grid step. -/
theorem ix1_3 : ∀ (t : Fin cfg1.N) (a : Fin 2), (cfg1.win 3).index t a = ![0, min t.val 7] a :=
  (by decide +kernel : ∀ (t : Fin grid1.N) (a : Fin 2), win1_3.index t a = ![0, min t.val 7] a)
/-- Where window 4 stands in its array at each grid step. -/
theorem ix1_4 : ∀ (t : Fin cfg1.N) (a : Fin 3), (cfg1.win 4).index t a = ![0, min t.val 7, 0] a :=
  (by decide +kernel : ∀ (t : Fin grid1.N) (a : Fin 3), win1_4.index t a = ![0, min t.val 7, 0] a)
/-- Where window 5 stands in its array at each grid step. -/
theorem ix1_5 : ∀ (t : Fin cfg1.N) (a : Fin 2), (cfg1.win 5).index t a = 0 :=
  (by decide +kernel : ∀ (t : Fin grid1.N) (a : Fin 2), win1_5.index t a = 0)
/-- Where window 6 stands in its array at each grid step. -/
theorem ix1_6 : ∀ (t : Fin cfg1.N) (a : Fin 2), (cfg1.win 6).index t a = ![0, min t.val 7] a :=
  (by decide +kernel : ∀ (t : Fin grid1.N) (a : Fin 2), win1_6.index t a = ![0, min t.val 7] a)
/-- Where window 7 stands in its array at each grid step. -/
theorem ix1_7 : ∀ (t : Fin cfg1.N) (a : Fin 2), (cfg1.win 7).index t a = 0 :=
  (by decide +kernel : ∀ (t : Fin grid1.N) (a : Fin 2), win1_7.index t a = 0)
/-- Where window 8 stands in its array at each grid step. -/
theorem ix1_8 : ∀ (t : Fin cfg1.N) (a : Fin 2), (cfg1.win 8).index t a = 0 :=
  (by decide +kernel : ∀ (t : Fin grid1.N) (a : Fin 2), win1_8.index t a = 0)

/-- A window as large as its array holds the array. -/
theorem g0 (t : Fin cfg1.N) : Gcn.iblk V c 0 t = V c main_arg3 := by
  funext y
  show V c main_arg3 (((cfg1.win 0).rect t).emb y) = _
  congr 1; funext a; apply Fin.ext
  exact Window.rect_emb_val_of_index_zero _ t a (ix1_0 t a) y

/-- A window as large as its array holds the array. -/
theorem g1 (t : Fin cfg1.N) : Gcn.iblk V c 1 t = V c main_v5_1 := by
  funext y
  show V c main_v5_1 (((cfg1.win 1).rect t).emb y) = _
  congr 1; funext a; apply Fin.ext
  exact Window.rect_emb_val_of_index_zero _ t a (ix1_1 t a) y

/-- A window as large as its array holds the array. -/
theorem g2 (t : Fin cfg1.N) : Gcn.iblk V c 2 t = V c main_arg4 := by
  funext y
  show V c main_arg4 (((cfg1.win 2).rect t).emb y) = _
  congr 1; funext a; apply Fin.ext
  exact Window.rect_emb_val_of_index_zero _ t a (ix1_2 t a) y

/-- A window as large as its array holds the array. -/
theorem g5 (t : Fin cfg1.N) : Gcn.iblk V c 5 t = V c main_v6 := by
  funext y
  show V c main_v6 (((cfg1.win 5).rect t).emb y) = _
  congr 1; funext a; apply Fin.ext
  exact Window.rect_emb_val_of_index_zero _ t a (ix1_5 t a) y

/-- A window as large as its array holds the array. -/
theorem g7 (t : Fin cfg1.N) : Gcn.iblk V c 7 t = V c main_v7 := by
  funext y
  show V c main_v7 (((cfg1.win 7).rect t).emb y) = _
  congr 1; funext a; apply Fin.ext
  exact Window.rect_emb_val_of_index_zero _ t a (ix1_7 t a) y

/-- The second weight's window holds 256 of its columns. -/
theorem g3 (t : Fin cfg1.N) (ht : t.val < 8) (e : Fin 1024) (d : Fin 256) :
    Gcn.iblk V c 3 t (ix2 e d) = V c main_arg5 (ix2 e (⟨256 * t.val + d.val, by omega⟩ : Fin 2048)) := by
  show V c main_arg5 (((cfg1.win 3).rect t).emb (ix2 e d)) = _
  congr 1; funext a; apply Fin.ext
  refine (Window.rect_emb_val _ t _ a).trans ?_
  rw [ix1_3 t a]
  fin_cases a
  · show 0 * 1024 + e.val = e.val; omega
  · show min t.val 7 * 256 + d.val = 256 * t.val + d.val; omega

/-- The window of the fusing weight holds 256 of its rows per slice. -/
theorem g4 (t : Fin cfg1.N) (ht : t.val < 8) (n : Fin 5) (d : Fin 256) (k : Fin 2048) :
    Gcn.iblk V c 4 t (ix3 n d k) = V c main_v4 (ix3 n (⟨256 * t.val + d.val, by omega⟩ : Fin 2048) k) := by
  show V c main_v4 (((cfg1.win 4).rect t).emb (ix3 n d k)) = _
  congr 1; funext a; apply Fin.ext
  refine (Window.rect_emb_val _ t _ a).trans ?_
  rw [ix1_4 t a]
  fin_cases a
  · show 0 * 5 + n.val = n.val; omega
  · show min t.val 7 * 256 + d.val = 256 * t.val + d.val; omega
  · show 0 * 2048 + k.val = k.val; omega

/-- The classifier's window holds 256 of its columns. -/
theorem g6 (t : Fin cfg1.N) (ht : t.val < 8) (r : Fin 1000) (k : Fin 256) :
    Gcn.iblk V c 6 t (ix2 r k) = V c main_v2 (ix2 r (⟨256 * t.val + k.val, by omega⟩ : Fin 2048)) := by
  show V c main_v2 (((cfg1.win 6).rect t).emb (ix2 r k)) = _
  congr 1; funext a; apply Fin.ext
  refine (Window.rect_emb_val _ t _ a).trans ?_
  rw [ix1_6 t a]
  fin_cases a
  · show 0 * 1000 + r.val = r.val; omega
  · show min t.val 7 * 256 + k.val = 256 * t.val + k.val; omega

end Cert.KernelIdeal.Val

end
-- ==== Proof.Val.GcnVal.lean ====
module

public import proofs.«01_k».proof.Proof.Val.BlkG
public import Idealize.ShloMosaic.Lib.Pipeline.FrameTail
public import Idealize.ShloMosaic.Lib.Pipeline.ValueKit.Geometry

@[expose] public section

set_option maxRecDepth 16384

noncomputable section

namespace Cert.KernelIdeal.Val

open Idealize.ShloMosaic Idealize.ShloMosaic.TcCoe Cert.KernelIdeal.Gen
open Idealize.ShloMosaic.Pipeline (Window Dat)

/-- What one of the 2048 middle lanes adds to the product. -/
def lane (h : FVec Ideal S256x1024 .f32) (w2 : FVec Ideal S1024x2048 .f32) (wg : FVec Ideal S5x2048x2048 .f32) (b : Fin 256) (k : Fin 2048) (d : Fin 2048) : EReal :=
  (∑ e : Fin 1024, h (ix2 b e) * w2 (ix2 e d)) * (∑ n : Fin 5, wg (ix3 n d k))

/-- The lanes of one block added together; no lanes beyond the eighth block. -/
def blockSum (f : Fin 2048 → EReal) (s : ℕ) : EReal := if hs : s < 8 then ∑ d : Fin 256, f ⟨256 * s + d.val, by omega⟩ else 0

/-- Eight blocks of lanes are all the lanes. -/
theorem blockSum_all (f : Fin 2048 → EReal) : ∑ s ∈ Finset.range 8, blockSum f s = ∑ d : Fin 2048, f d := by
  rw [Finset.sum_range]
  have e : ∀ s : Fin 8, blockSum f s.val = ∑ d : Fin 256, f ⟨256 * s.val + d.val, by omega⟩ := fun s => dif_pos s.isLt
  simp only [e]
  rw [← Fintype.sum_prod_type' (fun (s : Fin 8) (d : Fin 256) => f ⟨256 * s.val + d.val, by omega⟩)]
  refine Fintype.sum_equiv (finProdFinEquiv (m := 8) (n := 256)) _ _ fun x => ?_
  congr 1
  apply Fin.ext
  show 256 * x.1.val + x.2.val = x.2.val + 256 * x.1.val
  omega

variable (V : (c : Dev nD) → (b : Ref sig .tc) → Buf (Elt Ideal) ((c : Thread nD τ).loc b)) (c : Dev nD)

/-- The bias row the region finds. -/
def bgRow : FVec Ideal S1x2048 .f32 := V c main_v6
/-- The classifier's bias row the region finds. -/
def bcRow : FVec Ideal S1x1000 .f32 := V c main_v7
/-- The transposed classifier the region finds. -/
def wcT : FVec Ideal S1000x2048 .f32 := V c main_v2
/-- The second weights the region finds. -/
def w2In : FVec Ideal S1024x2048 .f32 := V c main_arg5
/-- The third weights the region finds, slices first. -/
def wgIn : FVec Ideal S5x2048x2048 .f32 := V c main_v4
/-- The lanes of the product the region computes. -/
def laneV (h : FVec Ideal S256x1024 .f32) (b : Fin 256) (k : Fin 2048) : Fin 2048 → EReal := lane h (w2In V c) (wgIn V c) b k

/-- The hidden layer the region computes. -/
def hid : FVec Ideal S256x1024 .f32 := k1_pay1 (F := Ideal) (V c main_arg3) (V c main_v5_1) (V c main_arg4)

/-- After the first point the scratch holds the hidden layer. -/
theorem st_h (s0 : Gcn.St Ideal) : ∀ (n : ℕ) (h : n ≤ cfg1.N), n ≠ 0 → n ≤ 8 → (Gcn.st V c s0 n h).1 = hid V c
  | 0, _, h0, _ => absurd rfl h0
  | n + 1, h, _, h8 => by
    by_cases hz : n = 0
    · subst hz
      show Gcn.hNew (Gcn.iblk V c 0 _) (Gcn.iblk V c 1 _) (Gcn.iblk V c 2 _) = _
      rw [g0, g1, g2]; rfl
    · have ih := st_h s0 n (Nat.le_of_lt h) hz (by omega)
      simp only [Gcn.st, Gcn.step, if_neg hz, if_pos (show n < 8 by omega)]
      exact ih

/-- The block added at a point. -/
theorem block_eq (t : Fin cfg1.N) (ht : t.val < 8) (w2b : FVec Ideal S1024x256 .f32) (wgb : FVec Ideal S5x256x2048 .f32) (h2 : w2b = Gcn.iblk V c 3 t) (hg : wgb = Gcn.iblk V c 4 t) (h : FVec Ideal S256x1024 .f32) (b : Fin 256) (k : Fin 2048) :
    (∑ d : Fin 256, (∑ e : Fin 1024, h (ix2 b e) * w2b (ix2 e d)) * (∑ n : Fin 5, wgb (ix3 n d k)))
      = blockSum (laneV V c h b k) t.val := by
  subst h2 hg
  unfold blockSum laneV lane w2In wgIn
  rw [dif_pos ht]
  refine Finset.sum_congr rfl fun d _ => ?_
  simp only [g3 V c t ht, g4 V c t ht]

/-- The running product after some points. -/
theorem st_g (s0 : Gcn.St Ideal) (b : Fin 256) (k : Fin 2048) : ∀ (n : ℕ) (h : n ≤ cfg1.N), n ≠ 0 → n ≤ 8 →
    (Gcn.st V c s0 n h).2.1 (ix2 b k) = bgRow V c (ix2 0 k) + ∑ s ∈ Finset.range n, blockSum (laneV V c (hid V c) b k) s
  | 0, _, h0, _ => absurd rfl h0
  | n + 1, h, _, h8 => by
    by_cases hz : n = 0
    · subst hz
      show k1_pay3 (F := Ideal) (Gcn.iblk V c 4 ⟨0, h⟩) (Gcn.hNew (Gcn.iblk V c 0 _) (Gcn.iblk V c 1 _) (Gcn.iblk V c 2 _)) (Gcn.iblk V c 3 ⟨0, h⟩) (k1_pay2 (F := Ideal) (Gcn.iblk V c 5 _)) (ix2 b k) = _
      rw [g0, g1, g2, g5, pay3_apply, pay2_apply, block_eq V c ⟨0, h⟩ (by show 0 < 8; omega) _ _ rfl rfl, Finset.sum_range_one]
      rfl
    · have ih := st_g s0 b k n (Nat.le_of_lt h) hz (by omega)
      have ihh := st_h V c s0 n (Nat.le_of_lt h) hz (by omega)
      simp only [Gcn.st, Gcn.step, if_neg hz, if_pos (show n < 8 by omega)]
      rw [pay3_apply, ih, ihh, block_eq V c ⟨n, h⟩ (by show n < 8; omega) _ _ rfl rfl, Finset.sum_range_succ, add_assoc]

/-- The classifier's columns put in after some points. -/
theorem st_wc (s0 : Gcn.St Ideal) (r : Fin 1000) (k : Fin 2048) : ∀ (n : ℕ) (h : n ≤ cfg1.N), n ≤ 8 → k.val < 256 * n →
    (Gcn.st V c s0 n h).2.2 (ix2 r k) = wcT V c (ix2 r k)
  | 0, _, _, hk => absurd hk (by omega)
  | n + 1, h, h8, hk => by
    have hn : n < 8 := by omega
    have key : ∀ s : Gcn.St Ideal, (Gcn.step V c ⟨n, h⟩ s).2.2 = Gcn.wNew (grid1.coords ⟨n, h⟩) s.2.2 (Gcn.iblk V c 6 ⟨n, h⟩) := by
      intro s; unfold Gcn.step; split
      · rfl
      · first | rfl | (rw [if_pos hn])
    simp only [Gcn.st, key]
    have e : (256 * n) % 2304 = 256 * n := Nat.mod_eq_of_lt (by omega)
    unfold Gcn.wNew VecWindow.put
    split
    · rename_i hc
      have h1 := hc (1 : Fin 2)
      rw [Gcn.off_eq ⟨n, h⟩ 1] at h1
      have h1 : (256 * n) % 2304 ≤ k.val ∧ k.val < (256 * n) % 2304 + 256 := h1
      rw [e] at h1
      have hi : ∀ y : S1000x256.Idx, (y 0).val = r.val → 256 * n + (y 1).val = k.val → k1_pay4 (F := Ideal) (Gcn.iblk V c 6 ⟨n, h⟩) y = wcT V c (ix2 r k) := by
        clear h1; intro y h0 h1
        obtain ⟨y0, y1, rfl⟩ : ∃ (y0 : Fin 1000) (y1 : Fin 256), y = ix2 y0 y1 := ⟨y 0, y 1, eq_ix2 y⟩
        rw [pay4_eq, g6 V c ⟨n, h⟩ hn]
        have e0 : y0 = r := Fin.ext h0
        have e1 : ∀ hh, (⟨256 * n + y1.val, hh⟩ : Fin 2048) = k := fun hh => Fin.ext h1
        rw [e0]
        exact congrArg (fun z => wcT V c (ix2 r z)) (e1 _)
      refine hi _ ?_ ?_
      · show r.val - k1_off1 (grid1.coords ⟨n, h⟩) 0 = r.val
        rw [Gcn.off_eq ⟨n, h⟩ 0]; exact Nat.sub_zero _
      · show 256 * n + (k.val - k1_off1 (grid1.coords ⟨n, h⟩) 1) = k.val
        rw [Gcn.off_eq ⟨n, h⟩ 1]
        show 256 * n + (k.val - (256 * n) % 2304) = k.val
        omega
    · rename_i hc
      refine st_wc s0 r k n (Nat.le_of_lt h) (by omega) ?_
      by_contra hge
      apply hc
      intro a
      rw [Gcn.off_eq ⟨n, h⟩ a]
      fin_cases a
      · exact ⟨Nat.zero_le _, by simpa using r.isLt⟩
      · refine ⟨?_, ?_⟩
        · show (256 * n) % 2304 ≤ k.val
          omega
        · show k.val < (256 * n) % 2304 + 256
          omega

/-- The transposed prediction, element by element. -/
theorem predT_apply (r : Fin 1000) (b : Fin 256) :
    Gcn.predT V c (ix2 r b) = (∑ k : Fin 2048, wcT V c (ix2 r k) * (bgRow V c (ix2 0 k) + ∑ d : Fin 2048, laneV V c (hid V c) b k d)) + bcRow V c (ix2 0 r) := by
  unfold Gcn.predT
  rw [pay5_apply, g7]
  congr 1
  refine Finset.sum_congr rfl fun k _ => ?_
  rw [st_wc V c _ r k 8 _ le_rfl (by have := k.isLt; omega), st_g V c _ b k 8 _ (by decide) le_rfl, blockSum_all]

/-- The second region leaves the transposed prediction in its result. -/
theorem arr8 : (Gcn.dat1 V c).arrAt 8 cfg1.N = Gcn.predT V c := by
  refine Dat.arrAt_eq_of_covers (cfg := cfg1) _ 8 (Gcn.predT V c) (by decide +kernel) fun t hf y => ?_
  show (Gcn.dat1 V c).after 8 t ((cfg1.win 8).xinj (cfg1.grid.coords t) y) = _
  rw [Gcn.after8]
  show Gcn.predT V c ((cfg1.win 8).xinj (cfg1.grid.coords t) y) = Gcn.predT V c (((cfg1.win 8).rect t).emb y)
  congr 1; funext a; apply Fin.ext
  exact (Window.rect_emb_val_of_index_zero _ t a (ix1_8 t a) y).symm

end Cert.KernelIdeal.Val

end
-- ==== Proof.Val.KerVal.lean ====
module

public import proofs.«01_k».proof.Proof.Val.EmaVal
public import proofs.«01_k».proof.Proof.Val.GcnVal
public import proofs.«01_k».proof.Proof.KI.Run
public import Idealize.ShloMosaic.Lib.Claim

@[expose] public section

set_option maxRecDepth 16384

noncomputable section

namespace Cert.KernelIdeal.Val

open Idealize.ShloMosaic Idealize.ShloMosaic.TcCoe Cert.KernelIdeal.Gen Cert.KernelIdeal.Run
open Idealize.ShloMosaic.Pipeline (Window Dat afterRegion)

variable (m : (ℓ : Loc nD τ sig) → Buf (Elt Ideal) ℓ) (c : Dev nD)

/-- The arguments, by name. -/
abbrev aX : FVec Ideal S256x5x2048 .f32 := m ((c : Thread nD τ).loc main_arg0)
abbrev aT : IVec S256 32 := m ((c : Thread nD τ).loc main_arg1)
abbrev aP : FVec Ideal S1000x5x2048 .f32 := m ((c : Thread nD τ).loc main_arg2)
abbrev aA : FVec Ideal S5x5 .f32 := m ((c : Thread nD τ).loc main_arg3)
abbrev aW1 : FVec Ideal S2048x1024 .f32 := m ((c : Thread nD τ).loc main_arg4)
abbrev aW2 : FVec Ideal S1024x2048 .f32 := m ((c : Thread nD τ).loc main_arg5)
abbrev aWg : FVec Ideal S10240x2048 .f32 := m ((c : Thread nD τ).loc main_arg6)
abbrev aBg : FVec Ideal S2048 .f32 := m ((c : Thread nD τ).loc main_arg7)
abbrev aWc : FVec Ideal S2048x1000 .f32 := m ((c : Thread nD τ).loc main_arg8)
abbrev aBc : FVec Ideal S1000 .f32 := m ((c : Thread nD τ).loc main_arg9)

/-! ## What the regions find -/

/-- The samples with the slices first. -/
theorem V1_x (n : Fin 5) (b : Fin 256) (d : Fin 2048) : (V1 m c main_v0 : FVec Ideal S5x256x2048 .f32) (ix3 n b d) = aX m c (ix3 b n d) := by
  unfold V1
  entry_read
  pointwise
/-- The features, slices first. -/
theorem V1_x' : V1 m c main_v0 = (fun y => aX m c (ix3 (y 1) (y 0) (y 2)) : FVec Ideal S5x256x2048 .f32) := funext fun y => by
  obtain ⟨y0, y1, y2, rfl⟩ : ∃ (y0 : Fin 5) (y1 : Fin 256) (y2 : Fin 2048), y = ix3 y0 y1 y2 := ⟨y 0, y 1, y 2, eq_ix3 y⟩
  exact V1_x m c y0 y1 y2
/-- The prototypes with the slices first. -/
theorem V1_p (n : Fin 5) (r : Fin 1000) (d : Fin 2048) : (V1 m c main_v1 : FVec Ideal S5x1000x2048 .f32) (ix3 n r d) = aP m c (ix3 r n d) := by
  unfold V1
  entry_read
  pointwise
/-- The classifier, transposed. -/
theorem V1_wc (r : Fin 1000) (k : Fin 2048) : (V1 m c main_v2 : FVec Ideal S1000x2048 .f32) (ix2 r k) = aWc m c (ix2 k r) := by
  unfold V1
  entry_read
  pointwise
/-- The labels, as a row. -/
theorem V1_t (j : Fin 256) : (V1 m c main_v3 : IVec S1x256 32) (ix2 0 j) = aT m c (ix1 j) := by
  unfold V1
  entry_read
  pointwise
/-- The fusing weight, split by slice. -/
theorem V1_wg (n : Fin 5) (d : Fin 2048) (k : Fin 2048) : (V1 m c main_v4 : FVec Ideal S5x2048x2048 .f32) (ix3 n d k) = aWg m c (ix2 (⟨n.val * 2048 + d.val, by omega⟩ : Fin 10240) k) := by
  unfold V1
  entry_read
  pointwise

/-! ## The prototypes -/

/-- The first region's first result, after the second region and the last host operations. -/
theorem v10_apply (r : Fin 1000) (n : Fin 5) (d : Fin 2048) :
    (V5 m (outs m) c main_v10 : FVec Ideal S1000x5x2048 .f32) (ix3 r n d)
      = normV (fun k => mixV (fun j => aT m c (ix1 j)) r.val (aP m c (ix3 r k d)) (fun j => aX m c (ix3 j k d))) n := by
  have h1 : (V5 m (outs m) c main_v10 : FVec Ideal S1000x5x2048 .f32) (ix3 r n d) = (V4 m (outs m) c main_v5_0 : FVec Ideal S5x1000x2048 .f32) (ix3 n r d) := by
    unfold V5
    entry_read
    pointwise
  have h2 : V4 m (outs m) c main_v5_0 = afterRegion (Ema.dat0 (W0 m) c) (V1 m c) main_v5_0 := by
    rw [V4_of m (outs m) c main_v5_0 (by decide), V3_of m (outs m) c main_v5_0 (by decide)]
    refine (Function.update_of_ne (StableHlo.devRef_ne_of_ne (by decide)) _ _).trans ?_
    exact Function.update_self (Proc.devRef .tc main_v5_0) (outs m 2 main_v5_0 c) (V1 m c)
  have h3 : afterRegion (Ema.dat0 (W0 m) c) (V1 m c) main_v5_0 = (Ema.dat0 (W0 m) c).arrAt 4 cfg0.N :=
    Pipeline.afterRegion_arr (Ema.dat0 (W0 m) c) (V1 m c) launch0.win.arr_inj 4
  have e0 : V1 m c main_v3 = (fun y => aT m c (ix1 (y 1)) : IVec S1x256 32) := funext fun y => by
    obtain ⟨y0, y1, rfl⟩ : ∃ (y0 : Fin 1) (y1 : Fin 256), y = ix2 y0 y1 := ⟨y 0, y 1, eq_ix2 y⟩
    obtain rfl : y0 = 0 := Subsingleton.elim _ _
    exact V1_t m c y1
  have e2 : V1 m c main_v1 = (fun y => aP m c (ix3 (y 1) (y 0) (y 2)) : FVec Ideal S5x1000x2048 .f32) := funext fun y => by
    obtain ⟨y0, y1, y2, rfl⟩ : ∃ (y0 : Fin 5) (y1 : Fin 1000) (y2 : Fin 2048), y = ix3 y0 y1 y2 := ⟨y 0, y 1, y 2, eq_ix3 y⟩
    exact V1_p m c y0 y1 y2
  rw [h1, h2, h3, arr4]
  exact congrFun (congr (congr (congrArg protoG e0) (V1_x' m c)) e2) (ix3 n r d)

/-! ## The prediction -/

/-- An argument reaches the second call as the first found it. -/
theorem V3_arg (b : Ref sig .tc) (h3 : b ∉ hostOps1_W) (h2 : b ∉ ([main_v5_0, main_v5_1] : List (Ref sig .tc))) : W1 m c b = V1 m c b := by
  show V3 m (outs0 m) c b = _
  rw [V3_of m (outs0 m) c b h3, V2_of m (outs0 m) c b h2]
/-- An argument reaches the first call as launched. -/
theorem V1_arg (b : Ref sig .tc) (h1 : b ∉ hostOps0_W) : V1 m c b = m ((c : Thread nD τ).loc b) := V1_of m c b h1

/-- The adjacency reaches the second call as launched. -/
theorem W1_a : W1 m c main_arg3 = aA m c := by rw [V3_arg m c _ (by decide) (by decide), V1_arg m c _ (by decide)]
/-- The first weight reaches the second call as launched. -/
theorem W1_w1 : W1 m c main_arg4 = aW1 m c := by rw [V3_arg m c _ (by decide) (by decide), V1_arg m c _ (by decide)]
/-- The second weight reaches the second call as launched. -/
theorem W1_w2 : W1 m c main_arg5 = aW2 m c := by rw [V3_arg m c _ (by decide) (by decide), V1_arg m c _ (by decide)]
/-- The second call reads the mean that the first one returned. -/
theorem W1_xb : W1 m c main_v5_1 = Ema.xb (W0 m) c := by
  show V3 m (outs0 m) c main_v5_1 = _
  rw [V3_of m (outs0 m) c main_v5_1 (by decide)]
  refine (Function.update_self (Proc.devRef .tc main_v5_1) (outs0 m 2 main_v5_1 c) (Function.update (V1 m c) main_v5_0 (outs0 m 2 main_v5_0 c))).trans ?_
  exact (Pipeline.afterRegion_arr (Ema.dat0 (W0 m) c) (V1 m c) launch0.win.arr_inj 5).trans (arr5 (W0 m) c)
/-- The fusing bias reaches the second call as a row. -/
theorem W1_bg (k : Fin 2048) : bgRow (W1 m) c (ix2 0 k) = aBg m c (ix1 k) := by
  have h : (V3 m (outs0 m) c main_v6 : FVec Ideal S1x2048 .f32) (ix2 0 k) = (V2 m (outs0 m) c main_arg7 : FVec Ideal S2048 .f32) (ix1 k) := by
    unfold V3
    entry_read
    pointwise
  refine h.trans ?_
  rw [V2_of m (outs0 m) c main_arg7 (by decide), V1_arg m c _ (by decide)]
/-- The classifier's bias reaches the second call as a row. -/
theorem W1_bc (r : Fin 1000) : bcRow (W1 m) c (ix2 0 r) = aBc m c (ix1 r) := by
  have h : (V3 m (outs0 m) c main_v7 : FVec Ideal S1x1000 .f32) (ix2 0 r) = (V2 m (outs0 m) c main_arg9 : FVec Ideal S1000 .f32) (ix1 r) := by
    unfold V3
    entry_read
    pointwise
  refine h.trans ?_
  rw [V2_of m (outs0 m) c main_arg9 (by decide), V1_arg m c _ (by decide)]
/-- The classifier reaches the second call transposed. -/
theorem W1_wc (r : Fin 1000) (k : Fin 2048) : wcT (W1 m) c (ix2 r k) = aWc m c (ix2 k r) := by
  show (W1 m c main_v2 : FVec Ideal S1000x2048 .f32) (ix2 r k) = _
  rw [V3_arg m c _ (by decide) (by decide)]
  exact V1_wc m c r k
/-- The second weight reaches the second call as launched. -/
theorem W1_w2' : w2In (W1 m) c = aW2 m c := W1_w2 m c
/-- The fusing weight reaches the second call split by slice. -/
theorem W1_wg (n : Fin 5) (d : Fin 2048) (k : Fin 2048) : wgIn (W1 m) c (ix3 n d k) = aWg m c (ix2 (⟨n.val * 2048 + d.val, by omega⟩ : Fin 10240) k) := by
  show (W1 m c main_v4 : FVec Ideal S5x2048x2048 .f32) (ix3 n d k) = _
  rw [V3_arg m c _ (by decide) (by decide)]
  exact V1_wg m c n d k

/-- The hidden layer from the arguments. -/
def hidV (a : Fin 5 → EReal) (x : Fin 5 → Fin 2048 → EReal) (w1 : Fin 2048 → Fin 1024 → EReal) (e : Fin 1024) : EReal :=
  (∑ n : Fin 5, a n) * max (∑ d : Fin 2048, (a 0 * x 0 d + a 1 * x 1 d + a 2 * x 2 d + a 3 * x 3 d + a 4 * x 4 d) * w1 d e) 0

/-- The kernel's prediction from the arguments. -/
def predV (a : Fin 5 → EReal) (x : Fin 5 → Fin 2048 → EReal) (w1 : Fin 2048 → Fin 1024 → EReal) (w2 : Fin 1024 → Fin 2048 → EReal)
    (wg : Fin 5 → Fin 2048 → Fin 2048 → EReal) (bg : Fin 2048 → EReal) (wc : Fin 2048 → EReal) (bc : EReal) : EReal :=
  (∑ k : Fin 2048, wc k * (bg k + ∑ d : Fin 2048, (∑ e : Fin 1024, hidV a x w1 e * w2 e d) * (∑ n : Fin 5, wg n d k))) + bc

/-- The hidden layer, entry by entry. -/
theorem hid_apply (b : Fin 256) (e : Fin 1024) :
    hid (W1 m) c (ix2 b e) = hidV (fun n => aA m c (ix2 0 n)) (fun n d => aX m c (ix3 b n d)) (fun d e => aW1 m c (ix2 d e)) e := by
  unfold hid hidV
  rw [pay1_apply, W1_a, W1_xb, W1_w1]
  have e : ∀ d, Ema.xb (W0 m) c (ix2 b d) = xbV (aA m c) (fun y => aX m c (ix3 (y 1) (y 0) (y 2))) b d := fun d => by
    rw [xb_apply]
    exact congrFun (congrFun (congr (congrArg xbV (V1_arg m c main_arg3 (by decide))) (V1_x' m c)) b) d
  simp only [e]
  rfl

/-- The kernel's first result. -/
theorem v9_apply (b : Fin 256) (r : Fin 1000) :
    (V5 m (outs m) c main_v9 : FVec Ideal S256x1000 .f32) (ix2 b r)
      = predV (fun n => aA m c (ix2 0 n)) (fun n d => aX m c (ix3 b n d)) (fun d e => aW1 m c (ix2 d e)) (fun e d => aW2 m c (ix2 e d))
        (fun n d k => aWg m c (ix2 (⟨n.val * 2048 + d.val, by omega⟩ : Fin 10240) k)) (fun k => aBg m c (ix1 k)) (fun k => aWc m c (ix2 k r)) (aBc m c (ix1 r)) := by
  have h1 : (V5 m (outs m) c main_v9 : FVec Ideal S256x1000 .f32) (ix2 b r) = (V4 m (outs m) c main_v8 : FVec Ideal S1000x256 .f32) (ix2 r b) := by
    unfold V5
    entry_read
    pointwise
  have h2 : V4 m (outs m) c main_v8 = afterRegion (Gcn.dat1 (W1 m) c) (V3 m (outs0 m) c) main_v8 :=
    Function.update_self (Proc.devRef .tc main_v8) (outs m 4 main_v8 c) (V3 m (outs m) c)
  have h3 : afterRegion (Gcn.dat1 (W1 m) c) (V3 m (outs0 m) c) main_v8 = (Gcn.dat1 (W1 m) c).arrAt 8 cfg1.N :=
    Pipeline.afterRegion_arr (Gcn.dat1 (W1 m) c) (V3 m (outs0 m) c) launch1.win.arr_inj 8
  rw [h1, h2, h3, arr8, predT_apply]
  unfold predV laneV lane
  simp only [W1_bc, W1_wc, W1_bg, W1_w2', hid_apply, W1_wg]

end Cert.KernelIdeal.Val

end
-- ==== Proof.Val.RefGcn.lean ====
module

public import proofs.«01_k».proof.Proof.Ref.Run
public import Idealize.ShloMosaic.Lib.Pointwise
public import Idealize.ShloMosaic.Lib.Claim

@[expose] public section

set_option maxRecDepth 16384

noncomputable section

namespace Cert.ReferenceIdeal.Val

open Idealize.ShloMosaic Idealize.ShloMosaic.TcCoe Idealize.ShloMosaic.StableHlo
open Cert.ReferenceIdeal.Gen Cert.ReferenceIdeal.Value Cert.ReferenceIdeal.Ref

variable (m : (ℓ : Loc nD τ sig) → Buf (Elt Ideal) ℓ) (c : Dev nD)

/-- The arguments, by name. -/
abbrev aX : FVec Ideal S256x5x2048 .f32 := m ((c : Thread nD τ).loc main_arg0)
abbrev aT : IVec S256 32 := m ((c : Thread nD τ).loc main_arg1)
abbrev aP : FVec Ideal S1000x5x2048 .f32 := m ((c : Thread nD τ).loc main_arg2)
abbrev aA : FVec Ideal S5x5 .f32 := m ((c : Thread nD τ).loc main_arg3)
abbrev aW1 : FVec Ideal S2048x1024 .f32 := m ((c : Thread nD τ).loc main_arg4)
abbrev aW2 : FVec Ideal S1024x2048 .f32 := m ((c : Thread nD τ).loc main_arg5)
abbrev aWg : FVec Ideal S10240x2048 .f32 := m ((c : Thread nD τ).loc main_arg6)
abbrev aBg : FVec Ideal S2048 .f32 := m ((c : Thread nD τ).loc main_arg7)
abbrev aWc : FVec Ideal S2048x1000 .f32 := m ((c : Thread nD τ).loc main_arg8)
abbrev aBc : FVec Ideal S1000 .f32 := m ((c : Thread nD τ).loc main_arg9)

/-- What the loop finds, as one fold of the lines before it. -/
theorem entry_eq : entryContents preI m c = after hostOps0_2 (after hostOps0_1 (after hostOps0 (fun b => m (c, b)))) := rfl

/-- The loop finds the samples as launched. -/
theorem e_x : entryContents preI m c main_v15_0 = aX m c := by
  rw [entry_eq]
  entry_read
  rfl
/-- The loop finds the labels as launched. -/
theorem e_t : entryContents preI m c main_v15_1 = aT m c := by
  rw [entry_eq]
  entry_read
  rfl
/-- The loop finds the prototypes as launched. -/
theorem e_p : entryContents preI m c main_v15_3 = aP m c := by
  rw [entry_eq]
  entry_read
  rfl

/-- The first layer before its cut at zero. -/
theorem v2_apply (b : Fin 256) (n : Fin 5) (e : Fin 1024) :
    (after hostOps0 (fun b => m (c, b)) main_v2 : FVec Ideal S256x5x1024 .f32) (ix3 b n e)
      = ∑ k : Fin 5, (∑ d : Fin 2048, aW1 m c (ix2 d e) * aX m c (ix3 b k d)) * aA m c (ix2 n k) := by
  entry_read
  pointwise

/-- The cut at zero. -/
theorem v3_eq (W : Valuation τ sig (Elt Ideal)) : after hostOps0_1 W main_v3
    = (maximumf (W main_v2 : FVec Ideal S256x5x1024 .f32) (broadcastInDim S256x5x1024 ![] bcast_S_S256x5x1024 (constant S_ .f32 0x00000000#32)) : FVec Ideal S256x5x1024 .f32) := by
  entry_read
  rfl

/-- The predictions from what the cut leaves. -/
theorem v14_apply (W : Valuation τ sig (Elt Ideal)) (z : FVec Ideal S256x5x1024 .f32) (a : FVec Ideal S5x5 .f32) (w2 : FVec Ideal S1024x2048 .f32)
    (wg : FVec Ideal S10240x2048 .f32) (bg : FVec Ideal S2048 .f32) (wc : FVec Ideal S2048x1000 .f32) (bc : FVec Ideal S1000 .f32)
    (hz : W main_v3 = z) (ha : W main_arg3 = a) (hw2 : W main_arg5 = w2) (hwg : W main_arg6 = wg) (hbg : W main_arg7 = bg) (hwc : W main_arg8 = wc) (hbc : W main_arg9 = bc)
    (b : Fin 256) (r : Fin 1000) : (after hostOps0_2 W main_v14 : FVec Ideal S256x1000 .f32) (ix2 b r)
    = (∑ k : Fin 2048, ((∑ p : Fin 10240, (∑ e : Fin 1024, (∑ n : Fin 5, z (ix3 b n e) * a (ix2 (⟨p.val / 2048, by omega⟩ : Fin 5) n))
          * w2 (ix2 e (⟨p.val % 2048, by omega⟩ : Fin 2048))) * wg (ix2 p k)) + bg (ix1 k)) * wc (ix2 k r)) + bc (ix1 r) := by
  entry_read
  rw [hz, ha, hw2, hwg, hbg, hwc, hbc]
  pointwise

/-- The first layer of the reference at sample `b`, slice `n`, feature `e`. -/
def actV (a : Fin 5 → Fin 5 → EReal) (x : Fin 5 → Fin 2048 → EReal) (w1 : Fin 2048 → Fin 1024 → EReal) (n : Fin 5) (e : Fin 1024) : EReal :=
  max (∑ k, (∑ d, w1 d e * x k d) * a n k) 0

/-- One prediction of the reference. -/
def refV (a : Fin 5 → Fin 5 → EReal) (x : Fin 5 → Fin 2048 → EReal) (w1 : Fin 2048 → Fin 1024 → EReal) (w2 : Fin 1024 → Fin 2048 → EReal)
    (wg : Fin 10240 → Fin 2048 → EReal) (bg : Fin 2048 → EReal) (wc : Fin 2048 → EReal) (bc : EReal) : EReal :=
  (∑ k, ((∑ p : Fin 10240, (∑ e, (∑ n, actV a x w1 n e * a (⟨p.val / 2048, by omega⟩ : Fin 5) n) * w2 e (⟨p.val % 2048, by omega⟩ : Fin 2048)) * wg p k) + bg k) * wc k) + bc

/-- The reference's first layer, entry by entry. -/
theorem act_apply (b : Fin 256) (n : Fin 5) (e : Fin 1024) :
    (after hostOps0_1 (after hostOps0 (fun b => m (c, b))) main_v3 : FVec Ideal S256x5x1024 .f32) (ix3 b n e)
      = actV (fun i j => aA m c (ix2 i j)) (fun n d => aX m c (ix3 b n d)) (fun d e => aW1 m c (ix2 d e)) n e := by
  have h := v2_apply m c b n e
  rw [v3_eq]
  unfold actV
  rw [← h]
  generalize after hostOps0 (fun b => m (c, b)) main_v2 = z
  pointwise

/-- A buffer that the first lines leave alone holds what it was launched with. -/
theorem keep2 (r : Ref sig .tc) (h0 : r ∉ hostOps0_W) (h1 : r ∉ hostOps0_1_W) :
    after hostOps0_1 (after hostOps0 (fun b => m (c, b))) (Proc.devRef .tc r) = m ((c : Thread nD τ).loc r) :=
  (after_of_writes_sub hostOps0_1 _ hostOps0_1_writes h1).trans ((after_of_writes_sub hostOps0 _ hostOps0_writes h0).trans rfl)

/-- The reference's predictions, entry by entry. -/
theorem v14_final (b : Fin 256) (r : Fin 1000) : (finalContents condOps preI bodyI postI 256 m c main_v14 : FVec Ideal S256x1000 .f32) (ix2 b r)
    = refV (fun i j => aA m c (ix2 i j)) (fun n d => aX m c (ix3 b n d)) (fun d e => aW1 m c (ix2 d e)) (fun e d => aW2 m c (ix2 e d))
        (fun p k => aWg m c (ix2 p k)) (fun k => aBg m c (ix1 k)) (fun k => aWc m c (ix2 k r)) (aBc m c (ix1 r)) := by
  rw [final_entry m c main_v14 (by decide +kernel) (by decide +kernel), entry_eq]
  refine (v14_apply _ (after hostOps0_1 (after hostOps0 (fun b => m (c, b))) main_v3) (aA m c) (aW2 m c) (aWg m c) (aBg m c) (aWc m c) (aBc m c) rfl
    (keep2 m c main_arg3 (by decide +kernel) (by decide +kernel)) (keep2 m c main_arg5 (by decide +kernel) (by decide +kernel))
    (keep2 m c main_arg6 (by decide +kernel) (by decide +kernel)) (keep2 m c main_arg7 (by decide +kernel) (by decide +kernel))
    (keep2 m c main_arg8 (by decide +kernel) (by decide +kernel)) (keep2 m c main_arg9 (by decide +kernel) (by decide +kernel)) b r).trans ?_
  unfold refV
  simp only [act_apply m c b]

end Cert.ReferenceIdeal.Val

end
-- ==== Proof.Val.RefEma.lean ====
module

public import proofs.«01_k».proof.Proof.Val.RefGcn
public import Idealize.ShloMosaic.Lib.Routing.OpsSet

@[expose] public section

set_option maxRecDepth 16384

noncomputable section

namespace Cert.ReferenceIdeal.Val

open Idealize.ShloMosaic Idealize.ShloMosaic.TcCoe Idealize.ShloMosaic.StableHlo
open Cert.ReferenceIdeal.Gen Cert.ReferenceIdeal.Value Cert.ReferenceIdeal.Ref

/-- The label's index word, wrapped if negative. -/
def wrapL (l : IVec S_ 32) : IVec S_ 32 := select (cmpi .slt l (constantI S_ 32 0#32)) (addi l (constantI S_ 32 1000#32)) l

/-- A label that is not negative is its own wrap. -/
theorem wrapL_eq (l : IVec S_ 32) (h : (l ix0).toNat < 2 ^ 31) : wrapL l ix0 = l ix0 := by
  unfold wrapL
  have h0 : BitVec.slt (l ix0) 0#32 = false := by
    rw [BitVec.slt_zero_eq_msb, BitVec.msb_eq_false_iff_two_mul_lt]; omega
  have h1 : IntOp.cmpi .slt (l ix0) 0#32 = 0#1 := congrArg BitVec.ofBool h0
  pointwise
  rw [h1]
  rfl

/-- Where the scatter of one row puts it. -/
theorem lands (idx : IVec S1 32) (n' : Fin 5) (d' : Fin 2048) (r : Fin 1000) (n : Fin 5) (d : Fin 2048) :
    scatter_S1000x5x2048_S1_S5x2048_01_0_0_0.resultIdx? (ix2 n' d') idx = some (ix3 r n d)
      ↔ (idx (ix1 0)).toInt = (r.val : Int) ∧ n' = n ∧ d' = d := by
  rw [Routing.resultIdx?_eq_some]
  have w0 : scatter_S1000x5x2048_S1_S5x2048_01_0_0_0.window (ix2 n' d') 0 = 0 := rfl
  have w1 : scatter_S1000x5x2048_S1_S5x2048_01_0_0_0.window (ix2 n' d') 1 = n'.val := rfl
  have w2 : scatter_S1000x5x2048_S1_S5x2048_01_0_0_0.window (ix2 n' d') 2 = d'.val := rfl
  have s0 : scatter_S1000x5x2048_S1_S5x2048_01_0_0_0.start (ix2 n' d') idx 0 = (idx (ix1 0)).toInt := by
    show (idx _).toInt = _
    congr 2
    funext a
    match a with
    | ⟨0, _⟩ => rfl
  have s1 : scatter_S1000x5x2048_S1_S5x2048_01_0_0_0.start (ix2 n' d') idx 1 = 0 := rfl
  have s2 : scatter_S1000x5x2048_S1_S5x2048_01_0_0_0.start (ix2 n' d') idx 2 = 0 := rfl
  constructor
  · intro h
    have h0 := h 0
    have h1 := h 1
    have h2 := h 2
    rw [w0, s0] at h0
    rw [w1, s1] at h1
    rw [w2, s2] at h2
    refine ⟨?_, Fin.ext ?_, Fin.ext ?_⟩
    · simpa using h0
    · have : (n'.val : Int) = n.val := by simpa using h1
      exact_mod_cast this
    · have : (d'.val : Int) = d.val := by simpa using h2
      exact_mod_cast this
  · rintro ⟨h, rfl, rfl⟩ a
    match a with
    | ⟨0, _⟩ => exact (congrArg₂ (· + ·) s0 (congrArg Nat.cast w0)).trans (by simpa using h)
    | ⟨1, _⟩ => exact (congrArg₂ (· + ·) s1 (congrArg Nat.cast w1)).trans (by simp)
    | ⟨2, _⟩ => exact (congrArg₂ (· + ·) s2 (congrArg Nat.cast w2)).trans (by simp)

/-- One trip's prototypes, as a function of the trip's label word, sample counter, samples and prototypes. -/
def tripV (p : FVec Ideal S1000x5x2048 .f32) (x : FVec Ideal S256x5x2048 .f32) (l k : IVec S_ 32) : FVec Ideal S1000x5x2048 .f32 :=
  Host.scatter scatter_S1000x5x2048_S1_S5x2048_01_0_0_0 (fun _ b => b) p (broadcastInDim S1 ![] bcast_S_S1 (select (cmpi .slt l (constantI S_ 32 0#32)) (addi l (constantI S_ 32 1000#32)) l)) (addf (mulf (shapeCast S5x2048 (Host.dynamicSlice S1x5x2048 p (fun k => (((![select (cmpi .slt l (constantI S_ 32 0#32)) (addi l (constantI S_ 32 1000#32)) l, select (cmpi .slt (constantI S_ 32 0#32) (constantI S_ 32 0#32)) (addi (constantI S_ 32 0#32) (constantI S_ 32 5#32)) (constantI S_ 32 0#32), select (cmpi .slt (constantI S_ 32 0#32) (constantI S_ 32 0#32)) (addi (constantI S_ 32 0#32) (constantI S_ 32 2048#32)) (constantI S_ 32 0#32)] : Fin 3 → (⟨S_, .i32⟩ : BufTy).Contents (Elt Ideal))) k (Shape.Idx.first h_S_)).toInt) sliceFits_S1000x5x2048_S1x5x2048) shapeCasts_S1x5x2048_S5x2048) (broadcastInDim S5x2048 ![] bcast_S_S5x2048 (constant S_ .f32 0x3F7FBE77#32))) (mulf (broadcastInDim S5x2048 ![] bcast_S_S5x2048 (constant S_ .f32 0x3A83126F#32)) (shapeCast S5x2048 (Host.dynamicSlice S1x5x2048 x (fun j => (((![k, constantI S_ 32 0#32, constantI S_ 32 0#32] : Fin 3 → (⟨S_, .i32⟩ : BufTy).Contents (Elt Ideal))) j (Shape.Idx.first h_S_)).toInt) sliceFits_S256x5x2048_S1x5x2048) shapeCasts_S1x5x2048_S5x2048)))

/-- The row of prototypes a trip reads. -/
theorem row_apply {N : ℕ} (hN : N < 2 ^ 31) (hs : (⟨3, ![N, 5, 2048]⟩ : Shape).Slices (fun _ => 0) S1x5x2048) (p : FVec Ideal ⟨3, ![N, 5, 2048]⟩ .f32) (l z0 z1 : IVec S_ 32) (r : Fin N) (h : (l ix0).toNat = r.val)
    (hz0 : z0 ix0 = 0#32) (hz1 : z1 ix0 = 0#32) (n : Fin 5) (d : Fin 2048) :
    shapeCast S5x2048 (Host.dynamicSlice S1x5x2048 p (fun k => (((![l, z0, z1] : Fin 3 → (⟨S_, .i32⟩ : BufTy).Contents (Elt Ideal))) k (Shape.Idx.first h_S_)).toInt) hs) shapeCasts_S1x5x2048_S5x2048 (ix2 n d)
      = p (ix3 r n d) := by
  have hf : Shape.Idx.first h_S_ = (ix0 : S_.Idx) := funext fun a => a.elim0
  have hl : (l ix0).toInt = (r.val : Int) := by
    have := r.isLt
    rw [BitVec.toInt_eq_toNat_of_lt (by omega), h]
  have c0 := Host.clampedStart_of_le hs.1 (fun k => (((![l, z0, z1] : Fin 3 → (⟨S_, .i32⟩ : BufTy).Contents (Elt Ideal))) k (Shape.Idx.first h_S_)).toInt) 0 r.val
    (by rw [hf]; exact hl) (by show r.val + 1 ≤ N; omega)
  have c1 := Host.clampedStart_of_le hs.1 (fun k => (((![l, z0, z1] : Fin 3 → (⟨S_, .i32⟩ : BufTy).Contents (Elt Ideal))) k (Shape.Idx.first h_S_)).toInt) 1 0
    (by rw [hf]; show (z0 ix0).toInt = _; rw [hz0]; rfl) (by show 0 + 5 ≤ 5; omega)
  have c2 := Host.clampedStart_of_le hs.1 (fun k => (((![l, z0, z1] : Fin 3 → (⟨S_, .i32⟩ : BufTy).Contents (Elt Ideal))) k (Shape.Idx.first h_S_)).toInt) 2 0
    (by rw [hf]; show (z1 ix0).toInt = _; rw [hz1]; rfl) (by show 0 + 2048 ≤ 2048; omega)
  pointwise
  refine congrArg p (funext fun a => ?_)
  match a with
  | ⟨0, _⟩ => exact Fin.ext c0
  | ⟨1, _⟩ => exact Fin.ext ((congrArg (· + n.val) c1).trans (Nat.zero_add _))
  | ⟨2, _⟩ => exact Fin.ext ((congrArg (· + d.val) c2).trans (Nat.zero_add _))

/-- One trip, entry by entry: row `r` is mixed with sample `j` when the trip's label is `r`, and is kept otherwise. -/
theorem tripV_apply (p : FVec Ideal S1000x5x2048 .f32) (x : FVec Ideal S256x5x2048 .f32) (l k : IVec S_ 32) (ht : (l ix0).toNat < 2 ^ 31)
    (j : Fin 256) (hk : (k ix0).toNat = j.val) (r : Fin 1000) (n : Fin 5) (d : Fin 2048) :
    tripV p x l k (ix3 r n d) = if r.val = (l ix0).toNat then p (ix3 r n d) * Ideal.ofBits .f32 0x3F7FBE77#32 + Ideal.ofBits .f32 0x3A83126F#32 * x (ix3 j n d) else p (ix3 r n d) := by
  have hw := wrapL_eq l ht
  have hi : (broadcastInDim S1 ![] bcast_S_S1 (wrapL l) (ix1 0)) = l ix0 := by
    rw [← hw]; pointwise
  have hl : (l ix0).toInt = ((l ix0).toNat : Int) := BitVec.toInt_eq_toNat_of_lt (by omega)
  unfold tripV
  rw [show (select (cmpi .slt l (constantI S_ 32 0#32)) (addi l (constantI S_ 32 1000#32)) l) = wrapL l from rfl]
  by_cases h : r.val = (l ix0).toNat
  · rw [if_pos h]
    refine Routing.scatter_set_hit _ _ _ _ _ _ (fun y hy => ?_) (ix2 n d) ((lands _ n d r n d).mpr ⟨by rw [hi, hl, h], rfl, rfl⟩)
    obtain ⟨n', d', rfl⟩ : ∃ (y0 : Fin 5) (y1 : Fin 2048), y = ix2 y0 y1 := ⟨y 0, y 1, eq_ix2 y⟩
    obtain ⟨-, rfl, rfl⟩ := (lands _ n' d' r n d).mp hy
    have e1 := row_apply (by norm_num) sliceFits_S1000x5x2048_S1x5x2048 p (wrapL l) (select (cmpi .slt (constantI S_ 32 0#32) (constantI S_ 32 0#32)) (addi (constantI S_ 32 0#32) (constantI S_ 32 5#32)) (constantI S_ 32 0#32))
      (select (cmpi .slt (constantI S_ 32 0#32) (constantI S_ 32 0#32)) (addi (constantI S_ 32 0#32) (constantI S_ 32 2048#32)) (constantI S_ 32 0#32)) r (by rw [hw, h]) rfl rfl n' d'
    have e2 := row_apply (by norm_num) sliceFits_S256x5x2048_S1x5x2048 x k (constantI S_ 32 0#32) (constantI S_ 32 0#32) j hk rfl rfl n' d'
    exact congrArg₂ (fun a b : EReal => a * Ideal.ofBits .f32 0x3F7FBE77#32 + Ideal.ofBits .f32 0x3A83126F#32 * b) e1 e2
  · rw [if_neg h]
    refine Routing.scatter_set_miss _ _ _ _ _ fun y hy => h ?_
    obtain ⟨n', d', rfl⟩ : ∃ (y0 : Fin 5) (y1 : Fin 2048), y = ix2 y0 y1 := ⟨y 0, y 1, eq_ix2 y⟩
    have := ((lands _ n' d' r n d).mp hy).1
    rw [hi, hl] at this
    exact_mod_cast this.symm

/-- A number below `256`, as the loop's counter. -/
theorem iv_toNat (k : ℕ) (hk : k < 256) : (Scf.iv 0#32 1#32 k).toNat = k := by
  rw [Scf.iv, BitVec.zero_add, BitVec.mul_one, BitVec.toNat_ofNat, Nat.mod_eq_of_lt (by omega)]

/-- The entry of a vector that a counter picks. -/
theorem pick_apply {N : ℕ} (hN : N < 2 ^ 31) (hs : (⟨1, ![N]⟩ : Shape).Slices (fun _ => 0) S1) (t : IVec ⟨1, ![N]⟩ 32) (l : IVec S_ 32) (r : Fin N) (h : (l ix0).toNat = r.val) :
    shapeCast S_ (Host.dynamicSlice S1 t (fun k => (((![l] : Fin 1 → (⟨S_, .i32⟩ : BufTy).Contents (Elt Ideal))) k (Shape.Idx.first h_S_)).toInt) hs) shapeCasts_S1_S_ ix0
      = t (ix1 r) := by
  have hf : Shape.Idx.first h_S_ = (ix0 : S_.Idx) := funext fun a => a.elim0
  have hl : (l ix0).toInt = (r.val : Int) := by
    have := r.isLt
    rw [BitVec.toInt_eq_toNat_of_lt (by omega), h]
  have c0 := Host.clampedStart_of_le hs.1 (fun k => (((![l] : Fin 1 → (⟨S_, .i32⟩ : BufTy).Contents (Elt Ideal))) k (Shape.Idx.first h_S_)).toInt) 0 r.val
    (by rw [hf]; exact hl) (by show r.val + 1 ≤ N; omega)
  pointwise
  refine congrArg t (funext fun a => ?_)
  match a with
  | ⟨0, _⟩ => exact Fin.ext c0

/-- The label a trip reads. -/
theorem label_apply (V : Valuation τ sig (Elt Ideal)) (t : IVec S256 32) (k : Fin 256) (ht : V main_v15_1 = t) (hk : V main_v15_2 = fun _ => Scf.iv 0#32 1#32 k.val) :
    (res_main_while0b_v25 V : IVec S_ 32) ix0 = t (ix1 k) := by
  unfold res_main_while0b_v25
  rw [ht, hk]
  exact pick_apply (by norm_num) sliceFits_S256_S1 t (fun _ => Scf.iv 0#32 1#32 k.val) k (iv_toNat k.val k.isLt)

/-- The prototypes after `k` samples at one entry of row `r`: a sample whose label is `r` is mixed in. -/
def emaV (t : Fin 256 → BitVec 32) (x : Fin 256 → EReal) (p : EReal) (r : ℕ) : ℕ → EReal
  | 0 => p
  | k + 1 => if h : k < 256 then
      (if r = (t ⟨k, h⟩).toNat then emaV t x p r k * Ideal.ofBits .f32 0x3F7FBE77#32 + Ideal.ofBits .f32 0x3A83126F#32 * x ⟨k, h⟩ else emaV t x p r k)
    else emaV t x p r k

/-- One more sample of the moving average. -/
theorem emaV_succ (t : Fin 256 → BitVec 32) (x : Fin 256 → EReal) (p : EReal) (r k : ℕ) (h : k < 256) : emaV t x p r (k + 1)
    = if r = (t ⟨k, h⟩).toNat then emaV t x p r k * Ideal.ofBits .f32 0x3F7FBE77#32 + Ideal.ofBits .f32 0x3A83126F#32 * x ⟨k, h⟩ else emaV t x p r k := by
  rw [emaV, dif_pos h]

variable (m : (ℓ : Loc nD τ sig) → Buf (Elt Ideal) ℓ) (c : Dev nD)

/-- What the loop holds after `k` trips. -/
theorem loop_val (ht : ∀ j : Fin 256, (aT m c (ix1 j)).toNat < 2 ^ 31) : ∀ k : ℕ, k ≤ 256 →
    atK m k c main_v15_0 = aX m c ∧ atK m k c main_v15_1 = aT m c ∧
      ∀ (r : Fin 1000) (n : Fin 5) (d : Fin 2048), (atK m k c main_v15_3 : FVec Ideal S1000x5x2048 .f32) (ix3 r n d)
        = emaV (fun j => aT m c (ix1 j)) (fun j => aX m c (ix3 j n d)) (aP m c (ix3 r n d)) r.val k
  | 0, _ => ⟨e_x m c, e_t m c, fun r n d => congrFun (e_p m c) (ix3 r n d)⟩
  | k + 1, hk => by
    obtain ⟨hx, ht', hp⟩ := loop_val ht k (by omega)
    have hK := cond_keeps (atK m k c)
    have g0 := (hK main_v15_0 (by decide)).trans hx
    have g1 := (hK main_v15_1 (by decide)).trans ht'
    have g2 := (hK main_v15_2 (by decide)).trans (atK_ctr m c k)
    have g3 := hK main_v15_3 (by decide)
    have hl := label_apply _ (aT m c) ⟨k, by omega⟩ g1 g2
    refine ⟨(trip_main_v15_0 _).trans g0, (trip_main_v15_1 _).trans g1, fun r n d => ?_⟩
    have e : atK m (k + 1) c main_v15_3 = tripV (atK m k c main_v15_3) (aX m c) (res_main_while0b_v25 (after condOps (atK m k c))) (fun _ => Scf.iv 0#32 1#32 k) := by
      refine (trip_main_v15_3 _).trans ?_
      rw [g0, g2, g3]
      exact id_eq _
    rw [e, tripV_apply _ _ _ _ (by rw [hl]; exact ht _) ⟨k, by omega⟩ (iv_toNat k (by omega)), hp, hl]
    rw [emaV_succ _ _ _ _ _ (by omega)]

/-- The lines after the loop: the prototypes over their norms. -/
theorem v23_apply (W : Valuation τ sig (Elt Ideal)) (p : FVec Ideal S1000x5x2048 .f32) (h : W main_v15_3 = p) (r : Fin 1000) (n : Fin 5) (d : Fin 2048) :
    (after hostOps0_3 W main_v23 : FVec Ideal S1000x5x2048 .f32) (ix3 r n d)
      = Ideal.div (p (ix3 r n d)) (max (Ideal.sqrt (∑ k : Fin 5, p (ix3 r k d) * p (ix3 r k d))) (Ideal.ofBits .f32 0x2B8CBCCC#32)) := by
  entry_read
  rw [h]
  pointwise

/-- The reference's prototypes, entry by entry. -/
theorem v23_final (ht : ∀ j : Fin 256, (aT m c (ix1 j)).toNat < 2 ^ 31) (r : Fin 1000) (n : Fin 5) (d : Fin 2048) :
    (finalContents condOps preI bodyI postI 256 m c main_v23 : FVec Ideal S1000x5x2048 .f32) (ix3 r n d)
      = Ideal.div (emaV (fun j => aT m c (ix1 j)) (fun j => aX m c (ix3 j n d)) (aP m c (ix3 r n d)) r.val 256)
          (max (Ideal.sqrt (∑ k : Fin 5, emaV (fun j => aT m c (ix1 j)) (fun j => aX m c (ix3 j k d)) (aP m c (ix3 r k d)) r.val 256
            * emaV (fun j => aT m c (ix1 j)) (fun j => aX m c (ix3 j k d)) (aP m c (ix3 r k d)) r.val 256)) (Ideal.ofBits .f32 0x2B8CBCCC#32)) := by
  have hp := (loop_val m c ht 256 le_rfl).2.2
  refine (v23_apply (after condOps (atK m 256 c)) (atK m 256 c main_v15_3) (cond_keeps (atK m 256 c) main_v15_3 (by decide)) r n d).trans ?_
  simp only [hp]

end Cert.ReferenceIdeal.Val

end
-- ==== Proof.Val.Alg.lean ====
module

public import proofs.«01_k».proof.Proof.Val.KerVal
public import proofs.«01_k».proof.Proof.Val.RefEma

@[expose] public section

set_option maxRecDepth 16384

noncomputable section

namespace Cert.Alg

open Idealize.ShloMosaic
open Cert.KernelIdeal.Val (hitN laterN mixV normV hidV predV)
open Cert.ReferenceIdeal.Val (emaV emaV_succ actV refV)

/-! ## Sums of reals among the extended reals -/

/-- A sum of reals, summed as extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, as extended reals. -/
theorem max_coe (a b : ℝ) : max (a : EReal) (b : EReal) = ((max a b : ℝ) : EReal) := (EReal.coe_strictMono.monotone.map_max).symm

/-- A sum over the flattened slices and features is a sum over slices of sums over features. -/
theorem sum_split {M : Type} [AddCommMonoid M] (f : Fin 10240 → M) : ∑ p, f p = ∑ n : Fin 5, ∑ d : Fin 2048, f ⟨n.val * 2048 + d.val, by omega⟩ := by
  rw [← Fintype.sum_prod_type' (fun (n : Fin 5) (d : Fin 2048) => f ⟨n.val * 2048 + d.val, by omega⟩)]
  refine Fintype.sum_equiv (⟨fun p => (⟨p.val / 2048, by omega⟩, ⟨p.val % 2048, by omega⟩), fun q => ⟨q.1.val * 2048 + q.2.val, by omega⟩, fun p => Fin.ext ?_, fun q => Prod.ext (Fin.ext ?_) (Fin.ext ?_)⟩ : Fin 10240 ≃ Fin 5 × Fin 2048) _ _ fun p => congrArg f (Fin.ext ?_)
  · show p.val / 2048 * 2048 + p.val % 2048 = p.val
    omega
  · show (q.1.val * 2048 + q.2.val) / 2048 = q.1.val
    omega
  · show (q.1.val * 2048 + q.2.val) % 2048 = q.2.val
    omega
  · show p.val = p.val / 2048 * 2048 + p.val % 2048
    omega

/-! ## The predictions -/

/-- The hidden layer over the reals, the same for every slice. -/
def hR (α : Fin 5 → ℝ) (X : Fin 5 → Fin 2048 → ℝ) (W1 : Fin 2048 → Fin 1024 → ℝ) (e : Fin 1024) : ℝ :=
  max (∑ d, (α 0 * X 0 d + α 1 * X 1 d + α 2 * X 2 d + α 3 * X 3 d + α 4 * X 4 d) * W1 d e) 0

/-- The kernel's hidden layer: the reals' one times the sum of the adjacency row. -/
theorem hidV_real (α : Fin 5 → ℝ) (X : Fin 5 → Fin 2048 → ℝ) (W1 : Fin 2048 → Fin 1024 → ℝ) (e : Fin 1024) :
    hidV (fun n => (α n : EReal)) (fun n d => (X n d : EReal)) (fun d e => (W1 d e : EReal)) e = (((∑ n, α n) * hR α X W1 e : ℝ) : EReal) := by
  unfold hidV hR
  rw [EReal.coe_mul, ← max_coe, ← sum_coe, ← sum_coe]
  simp only [EReal.coe_mul, EReal.coe_add, EReal.coe_zero]

/-- The reference's first layer: the same real for every slice, the adjacency rows being equal. -/
theorem actV_real (α : Fin 5 → ℝ) (X : Fin 5 → Fin 2048 → ℝ) (W1 : Fin 2048 → Fin 1024 → ℝ) (n : Fin 5) (e : Fin 1024) :
    actV (fun _ n => (α n : EReal)) (fun n d => (X n d : EReal)) (fun d e => (W1 d e : EReal)) n e = ((hR α X W1 e : ℝ) : EReal) := by
  unfold actV hR
  have h : (∑ k : Fin 5, (∑ d, (W1 d e : EReal) * (X k d : EReal)) * (α k : EReal))
      = ((∑ d, (α 0 * X 0 d + α 1 * X 1 d + α 2 * X 2 d + α 3 * X 3 d + α 4 * X 4 d) * W1 d e : ℝ) : EReal) := by
    simp only [← EReal.coe_mul, sum_coe]
    refine congrArg _ ?_
    simp only [Finset.sum_mul]
    rw [Finset.sum_comm]
    refine Finset.sum_congr rfl fun d _ => ?_
    rw [Fin.sum_univ_five]
    ring
  rw [h, ← max_coe, EReal.coe_zero]

/-- The kernel's prediction is the reference's, where the adjacency rows are equal and what is summed in another order is real. -/
theorem pred_eq (a : Fin 5 → Fin 5 → EReal) (x : Fin 5 → Fin 2048 → EReal) (w1 : Fin 2048 → Fin 1024 → EReal) (w2 : Fin 1024 → Fin 2048 → EReal)
    (wg : Fin 10240 → Fin 2048 → EReal) (bg : Fin 2048 → EReal) (wc : Fin 2048 → EReal) (bc : EReal)
    (ha : ∀ i j, a i j = a 0 j) (fa : ∀ j, ∃ r : ℝ, a 0 j = r) (fx : ∀ n d, ∃ r : ℝ, x n d = r) (f1 : ∀ d e, ∃ r : ℝ, w1 d e = r)
    (f2 : ∀ e d, ∃ r : ℝ, w2 e d = r) (fg : ∀ p k, ∃ r : ℝ, wg p k = r) :
    refV a x w1 w2 wg bg wc bc = predV (a 0) x w1 w2 (fun n d k => wg ⟨n.val * 2048 + d.val, by omega⟩ k) bg wc bc := by
  choose α hα using fa
  choose X hX using fx
  choose W1 h1 using f1
  choose W2 h2 using f2
  choose Wg hg using fg
  obtain rfl : a = fun _ n => (α n : EReal) := funext fun i => funext fun j => (ha i j).trans (hα j)
  obtain rfl : x = fun n d => (X n d : EReal) := funext fun i => funext fun j => hX i j
  obtain rfl : w1 = fun n d => (W1 n d : EReal) := funext fun i => funext fun j => h1 i j
  obtain rfl : w2 = fun n d => (W2 n d : EReal) := funext fun i => funext fun j => h2 i j
  obtain rfl : wg = fun n d => (Wg n d : EReal) := funext fun i => funext fun j => hg i j
  unfold refV predV
  refine congrArg (· + bc) (Finset.sum_congr rfl fun k _ => ?_)
  rw [mul_comm (wc k), add_comm (bg k)]
  refine congrArg (fun z => (z + bg k) * wc k) ?_
  simp only [actV_real, hidV_real, ← EReal.coe_mul, sum_coe]
  refine congrArg _ ?_
  rw [sum_split, Finset.sum_comm]
  refine Finset.sum_congr rfl fun d _ => ?_
  rw [Finset.mul_sum]
  refine Finset.sum_congr rfl fun n _ => ?_
  have hd : (⟨(n.val * 2048 + d.val) % 2048, by omega⟩ : Fin 2048) = d := Fin.ext (by show (n.val * 2048 + d.val) % 2048 = d.val; omega)
  rw [hd]
  refine congrArg (· * _) (Finset.sum_congr rfl fun e _ => ?_)
  rw [← Finset.mul_sum, mul_comm (hR α X W1 e)]

/-! ## The prototypes -/

/-- The moving average's factor and the weight of a new sample, as reals. -/
theorem factor_real : ∃ μ : ℝ, 0 ≤ μ ∧ Ideal.ofBits .f32 0x3F7FBE77#32 = (μ : EReal) := by
  refine ⟨_, ?_, by simp [Ideal.ofBits, Ideal.ieee, -EReal.coe_mul]; rfl⟩
  norm_num

/-- The weight of a new sample is a real number. -/
theorem weight_real : ∃ ε : ℝ, Ideal.ofBits .f32 0x3A83126F#32 = (ε : EReal) :=
  ⟨_, by simp [Ideal.ofBits, Ideal.ieee, -EReal.coe_mul]; rfl⟩

/-- A sum over the samples before `k + 1` is the sum over those before `k` and sample `k`'s term. -/
theorem sum_step {M : Type} [AddCommMonoid M] (f : Fin 256 → M) (k : Fin 256) :
    (∑ i : Fin 256, if i.val < k.val + 1 then f i else 0) = (∑ i : Fin 256, if i.val < k.val then f i else 0) + f k := by
  have h : (∑ i : Fin 256, if i = k then f i else 0) = f k := by simp
  rw [← h, ← Finset.sum_add_distrib]
  refine Finset.sum_congr rfl fun i _ => ?_
  by_cases h1 : i = k
  · subst h1; simp
  · have : i.val ≠ k.val := fun e => h1 (Fin.ext e)
    by_cases h2 : i.val < k.val
    · rw [if_pos (by omega), if_pos h2, if_neg h1, add_zero]
    · rw [if_neg (by omega), if_neg h2, if_neg h1, add_zero]

/-- How many of the first `k` samples have class `r`. -/
def cnt (t : Fin 256 → BitVec 32) (r k : ℕ) : ℕ := ∑ j : Fin 256, if j.val < k then (if r = (t j).toNat then 1 else 0) else 0

/-- How many of the first `k` samples come after sample `j` and share its class. -/
def lat (t : Fin 256 → BitVec 32) (k : ℕ) (j : Fin 256) : ℕ := ∑ i : Fin 256, if i.val < k then (if j.val < i.val ∧ t j = t i then 1 else 0) else 0

/-- What the first `k` samples have added to class `r`. -/
def added (μ ε : ℝ) (t : Fin 256 → BitVec 32) (x : Fin 256 → ℝ) (r k : ℕ) : ℝ :=
  ∑ j : Fin 256, if j.val < k then (if r = (t j).toNat then ε * μ ^ lat t k j * x j else 0) else 0

/-- No sample before the end of its own step comes after it. -/
theorem lat_self (t : Fin 256 → BitVec 32) (k : Fin 256) : lat t (k.val + 1) k = 0 := by
  unfold lat
  refine Finset.sum_eq_zero fun i _ => ?_
  by_cases h : i.val < k.val + 1
  · rw [if_pos h, if_neg (by omega)]
  · rw [if_neg h]

/-- One more sample: what was added decays by the factor and the sample joins it if the class is its own. -/
theorem added_succ (μ ε : ℝ) (t : Fin 256 → BitVec 32) (x : Fin 256 → ℝ) (r : ℕ) (k : Fin 256) :
    added μ ε t x r (k.val + 1) = if r = (t k).toNat then added μ ε t x r k.val * μ + ε * x k else added μ ε t x r k.val := by
  unfold added
  rw [sum_step, lat_self]
  have hl : ∀ j : Fin 256, lat t (k.val + 1) j = lat t k.val j + if j.val < k.val ∧ t j = t k then 1 else 0 := fun j => sum_step _ k
  by_cases h : r = (t k).toNat
  · rw [if_pos h, if_pos h, pow_zero, mul_one, Finset.sum_mul]
    refine congrArg (· + _) (Finset.sum_congr rfl fun j _ => ?_)
    by_cases h1 : j.val < k.val
    · rw [if_pos h1, if_pos h1]
      by_cases h2 : r = (t j).toNat
      · rw [if_pos h2, if_pos h2, hl, if_pos ⟨h1, BitVec.eq_of_toNat_eq (h2.symm.trans h)⟩, pow_succ]
        ring
      · rw [if_neg h2, if_neg h2, zero_mul]
    · rw [if_neg h1, if_neg h1, zero_mul]
  · rw [if_neg h, if_neg h, add_zero]
    refine Finset.sum_congr rfl fun j _ => ?_
    by_cases h1 : j.val < k.val
    · rw [if_pos h1, if_pos h1]
      by_cases h2 : r = (t j).toNat
      · rw [if_pos h2, if_pos h2, hl, if_neg (fun e => h (h2.trans (congrArg BitVec.toNat e.2))), add_zero]
      · rw [if_neg h2, if_neg h2]
    · rw [if_neg h1, if_neg h1]

/-- After `k` samples: the old value times a power of the factor, and what was added. -/
theorem ema_closed (μ ε : ℝ) (hμ : 0 ≤ μ) (eμ : Ideal.ofBits .f32 0x3F7FBE77#32 = (μ : EReal)) (eε : Ideal.ofBits .f32 0x3A83126F#32 = (ε : EReal))
    (t : Fin 256 → BitVec 32) (x : Fin 256 → ℝ) (p : EReal) (r : ℕ) : ∀ k : ℕ, k ≤ 256 →
      emaV t (fun j => (x j : EReal)) p r k = ((μ ^ cnt t r k : ℝ) : EReal) * p + ((added μ ε t x r k : ℝ) : EReal)
  | 0, _ => by simp [emaV, cnt, added]
  | k + 1, hk => by
    have hc : cnt t r (k + 1) = cnt t r k + if r = (t ⟨k, by omega⟩).toNat then 1 else 0 := sum_step _ (⟨k, by omega⟩ : Fin 256)
    have hs := added_succ μ ε t x r ⟨k, by omega⟩
    rw [emaV_succ _ _ _ _ _ (by omega), ema_closed μ ε hμ eμ eε t x p r k (by omega), hc, hs, eμ, eε]
    by_cases h : r = (t ⟨k, by omega⟩).toNat
    · rw [if_pos h, if_pos h, if_pos h, EReal.right_distrib_of_nonneg_of_ne_top (by exact_mod_cast hμ) (EReal.coe_ne_top _), add_assoc, pow_succ, EReal.coe_add, EReal.coe_mul,
        EReal.coe_mul, EReal.coe_mul, mul_assoc, mul_comm p, mul_assoc]
    · rw [if_neg h, if_neg h, if_neg h, add_zero]

/-- A count, summed as extended reals. -/
theorem count_coe (P : Fin 256 → Prop) [DecidablePred P] : (∑ j : Fin 256, if P j then (1 : EReal) else 0) = (((∑ j : Fin 256, if P j then 1 else 0 : ℕ) : ℝ) : EReal) := by
  rw [Nat.cast_sum, ← sum_coe]
  refine Finset.sum_congr rfl fun j _ => ?_
  by_cases h : P j
  · simp [h]
  · simp [h]

/-- A power with a count for its exponent. -/
theorem pow_coe (μ : ℝ) (n : ℕ) : Ideal.pow (μ : EReal) ((n : ℝ) : EReal) = ((μ ^ n : ℝ) : EReal) := by
  show ((Real.rpow μ n : ℝ) : EReal) = _
  exact congrArg _ (Real.rpow_natCast μ n)

/-- The reference's sequential moving average is the kernel's closed form. -/
theorem ema_eq (t : Fin 256 → BitVec 32) (x : Fin 256 → EReal) (p : EReal) (r : ℕ) (fx : ∀ j, ∃ s : ℝ, x j = s) : emaV t x p r 256 = mixV t r p x := by
  obtain ⟨μ, hμ, eμ⟩ := factor_real
  obtain ⟨ε, eε⟩ := weight_real
  choose X hX using fx
  obtain rfl : x = fun j => (X j : EReal) := funext hX
  rw [ema_closed μ ε hμ eμ eε t X p r 256 le_rfl]
  unfold mixV
  have e1 : (∑ j : Fin 256, hitN t r j) = ((cnt t r 256 : ℝ) : EReal) := by
    refine (count_coe fun j => r = (t j).toNat).trans (congrArg (fun n : ℕ => ((n : ℝ) : EReal)) ?_)
    exact Finset.sum_congr rfl fun j _ => (if_pos j.isLt).symm
  have e2 : ∀ j, laterN t j = ((lat t 256 j : ℝ) : EReal) := fun j => by
    refine (count_coe fun k => j.val < k.val ∧ t j = t k).trans (congrArg (fun n : ℕ => ((n : ℝ) : EReal)) ?_)
    exact Finset.sum_congr rfl fun j _ => (if_pos j.isLt).symm
  rw [e1, eμ, eε, pow_coe]
  refine congrArg (((μ ^ cnt t r 256 : ℝ) : EReal) * p + ·) ?_
  unfold added
  rw [← sum_coe]
  refine Finset.sum_congr rfl fun j _ => ?_
  rw [if_pos j.isLt, e2, pow_coe]
  unfold hitN
  by_cases h : r = (t j).toNat
  · rw [if_pos h, if_pos h, one_mul, EReal.coe_mul, EReal.coe_mul]
  · rw [if_neg h, if_neg h, zero_mul, zero_mul, EReal.coe_zero]

/-- The normalised prototypes agree. -/
theorem proto_eq (t : Fin 256 → BitVec 32) (x : Fin 5 → Fin 256 → EReal) (p : Fin 5 → EReal) (r : ℕ) (n : Fin 5) (fx : ∀ n j, ∃ s : ℝ, x n j = s) :
    Ideal.div (emaV t (x n) (p n) r 256) (max (Ideal.sqrt (∑ k : Fin 5, emaV t (x k) (p k) r 256 * emaV t (x k) (p k) r 256)) (Ideal.ofBits .f32 0x2B8CBCCC#32))
      = normV (fun k => mixV t r (p k) (x k)) n := by
  have h : ∀ k, emaV t (x k) (p k) r 256 = mixV t r (p k) (x k) := fun k => ema_eq t (x k) (p k) r (fx k)
  simp only [h]
  unfold normV
  rw [Fin.sum_univ_five]

end Cert.Alg

end
-- ==== Proof.Val.Pre.lean ====
module

public import proofs.«01_k».proof.Pre_uniform_finite
public import Idealize.ShloMosaic.Lib.Pointwise

@[expose] public section

set_option maxRecDepth 16384

noncomputable section

namespace Cert.Pre_uniform_finite.Read

open Idealize.ShloMosaic

/-- The shape relations the precondition's operations take. -/
instance facts : Cert.Pre_uniform_finite.Facts where
  bcast_S_S256 := by decide
  slices_S5x5_S1x5_0_0 := by decide
  bcast_S1x5_S5x5_0_1 := by decide
  bcast_S_S5x5 := by decide
  bcast_S_S256x5x2048 := by decide
  bcast_S_S2048x1024 := by decide
  bcast_S_S1024x2048 := by decide
  bcast_S_S10240x2048 := by decide

variable (a0 : FVec Ideal S256x5x2048 .f32) (a1 : IVec S256 32) (a2 : FVec Ideal S1000x5x2048 .f32) (a3 : FVec Ideal S5x5 .f32)
  (a4 : FVec Ideal S2048x1024 .f32) (a5 : FVec Ideal S1024x2048 .f32) (a6 : FVec Ideal S10240x2048 .f32) (a7 : FVec Ideal S2048 .f32)
  (a8 : FVec Ideal S2048x1000 .f32) (a9 : FVec Ideal S1000 .f32)

/-- A true flag. -/
theorem of_flag {p : Prop} [Decidable p] (h : BitVec.ofBool (decide p) = 1#1) : p := by
  by_contra hp; rw [decide_eq_false hp] at h; exact absurd h (by decide)

/-- A number whose absolute value is below infinity is real. -/
theorem real_of_flag {x : EReal} (h : BitVec.ofBool (decide (FloatOps.absf (F := Ideal) (φ := .f32) x < Ideal.ofBits FTy.f32 0x7F800000#32)) = 1#1) : ∃ r : ℝ, x = r := by
  have h := of_flag h
  have ht : Ideal.ofBits FTy.f32 0x7F800000#32 = ⊤ := by simp [Ideal.ofBits, Ideal.ieee]
  rw [ht] at h
  induction x with
  | bot => exact absurd h (by show ¬ (max (⊥ : EReal) (-⊥) < ⊤); simp)
  | top => exact absurd h (by show ¬ (max (⊤ : EReal) (-⊤) < ⊤); simp)
  | coe r => exact ⟨r, rfl⟩

/-- No label is negative. -/
theorem range (h : (fn (F := Ideal) a0 a1 a2 a3 a4 a5 a6 a7 a8 a9).1 = fun _ => 1#1) (j : Fin 256) : (a1 (ix1 j)).toNat < 2 ^ 31 := by
  have h := congrFun h (ix1 j)
  pointwise [fn, fn_part1] at h
  generalize a1 (ix1 j) = x at h
  have h : BitVec.ofBool ((0#32).sle x) = 1#1 := h
  have h1 : (0#32).sle x = true := by
    by_contra hh; rw [Bool.not_eq_true] at hh; rw [hh] at h; simp at h
  rw [BitVec.sle_eq_decide, decide_eq_true_iff] at h1
  have e0 : (0#32).toInt = 0 := by decide
  rw [e0, BitVec.toInt_eq_toNat_cond] at h1
  split at h1 <;> omega

/-- The adjacency's rows are equal. -/
theorem rows (h : (fn (F := Ideal) a0 a1 a2 a3 a4 a5 a6 a7 a8 a9).2.1 = fun _ => 1#1) (i j : Fin 5) : a3 (ix2 i j) = a3 (ix2 0 j) := by
  have h := congrFun h (ix2 i j)
  pointwise [fn, fn_part1] at h
  exact of_flag h

/-- The adjacency is real. -/
theorem fin_adj (hp : (fn (F := Ideal) a0 a1 a2 a3 a4 a5 a6 a7 a8 a9).2.2.1 = fun _ => 1#1) (i j : Fin 5) : ∃ r : ℝ, a3 (ix2 i j) = r := by
  have hp := congrFun hp (ix2 i j)
  pointwise [fn, fn_part1] at hp
  exact real_of_flag hp

/-- The features are real. -/
theorem fin_x (hp : (fn (F := Ideal) a0 a1 a2 a3 a4 a5 a6 a7 a8 a9).2.2.2.1 = fun _ => 1#1) (b : Fin 256) (n : Fin 5) (d : Fin 2048) : ∃ r : ℝ, a0 (ix3 b n d) = r := by
  have hp := congrFun hp (ix3 b n d)
  pointwise [fn, fn_part1] at hp
  exact real_of_flag hp

/-- The first weights are real. -/
theorem fin_w1 (hp : (fn (F := Ideal) a0 a1 a2 a3 a4 a5 a6 a7 a8 a9).2.2.2.2.1 = fun _ => 1#1) (d : Fin 2048) (h : Fin 1024) : ∃ r : ℝ, a4 (ix2 d h) = r := by
  have hp := congrFun hp (ix2 d h)
  pointwise [fn, fn_part1] at hp
  exact real_of_flag hp

/-- The second weights are real. -/
theorem fin_w2 (hp : (fn (F := Ideal) a0 a1 a2 a3 a4 a5 a6 a7 a8 a9).2.2.2.2.2.1 = fun _ => 1#1) (h : Fin 1024) (d : Fin 2048) : ∃ r : ℝ, a5 (ix2 h d) = r := by
  have hp := congrFun hp (ix2 h d)
  pointwise [fn, fn_part1] at hp
  exact real_of_flag hp

/-- The third weights are real. -/
theorem fin_wg (hp : (fn (F := Ideal) a0 a1 a2 a3 a4 a5 a6 a7 a8 a9).2.2.2.2.2.2 = fun _ => 1#1) (p : Fin 10240) (k : Fin 2048) : ∃ r : ℝ, a6 (ix2 p k) = r := by
  have hp := congrFun hp (ix2 p k)
  pointwise [fn, fn_part1] at hp
  exact real_of_flag hp

end Cert.Pre_uniform_finite.Read

end
-- ==== Proof.Val.Equal.lean ====
module

public import proofs.«01_k».proof.Proof.Val.Alg
public import proofs.«01_k».proof.Proof.Val.Pre
public import proofs.«01_k».proof.Defs

@[expose] public section

set_option maxRecDepth 16384

noncomputable section

namespace Cert.Equal

open Idealize.ShloMosaic Idealize.ShloMosaic.TcCoe Idealize.SL Idealize.SL.Sem
open Cert.KernelIdeal (S256x1000 S1000x5x2048)

/-- The two memories hold the same arguments on device `c`. -/
structure Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  x : Cert.ReferenceIdeal.Val.aX m' c = Cert.KernelIdeal.Val.aX m c
  t : Cert.ReferenceIdeal.Val.aT m' c = Cert.KernelIdeal.Val.aT m c
  p : Cert.ReferenceIdeal.Val.aP m' c = Cert.KernelIdeal.Val.aP m c
  a : Cert.ReferenceIdeal.Val.aA m' c = Cert.KernelIdeal.Val.aA m c
  w1 : Cert.ReferenceIdeal.Val.aW1 m' c = Cert.KernelIdeal.Val.aW1 m c
  w2 : Cert.ReferenceIdeal.Val.aW2 m' c = Cert.KernelIdeal.Val.aW2 m c
  wg : Cert.ReferenceIdeal.Val.aWg m' c = Cert.KernelIdeal.Val.aWg m c
  bg : Cert.ReferenceIdeal.Val.aBg m' c = Cert.KernelIdeal.Val.aBg m c
  wc : Cert.ReferenceIdeal.Val.aWc m' c = Cert.KernelIdeal.Val.aWc m c
  bc : Cert.ReferenceIdeal.Val.aBc m' c = Cert.KernelIdeal.Val.aBc m c

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's predictions are the kernel's. -/
theorem preds (hp : Cert.Pre_KernelIdeal_uniform_finite m) (hs : Same m m' c) :
    (StableHlo.finalContents Cert.ReferenceIdeal.Value.condOps Cert.ReferenceIdeal.Value.preI Cert.ReferenceIdeal.Value.bodyI Cert.ReferenceIdeal.Value.postI 256 m' c
        Cert.ReferenceIdeal.main_v14 : FVec Ideal S256x1000 .f32)
      = (Cert.KernelIdeal.Gen.V5 m (Cert.KernelIdeal.Run.outs m) c Cert.KernelIdeal.main_v9 : FVec Ideal S256x1000 .f32) := by
  obtain ⟨h1, h2, h3, h4, h5, h6, h7⟩ := hp c
  funext y
  obtain ⟨b, r, rfl⟩ : ∃ (y0 : Fin 256) (y1 : Fin 1000), y = ix2 y0 y1 := ⟨y 0, y 1, eq_ix2 y⟩
  refine (Cert.ReferenceIdeal.Val.v14_final m' c b r).trans (Eq.trans ?_ (Cert.KernelIdeal.Val.v9_apply m c b r).symm)
  rw [hs.x, hs.a, hs.w1, hs.w2, hs.wg, hs.bg, hs.wc, hs.bc]
  exact Cert.Alg.pred_eq _ _ _ _ _ _ _ _ (fun i j => Cert.Pre_uniform_finite.Read.rows _ _ _ _ _ _ _ _ _ _ h2 i j)
    (fun j => Cert.Pre_uniform_finite.Read.fin_adj _ _ _ _ _ _ _ _ _ _ h3 0 j)
    (fun n d => Cert.Pre_uniform_finite.Read.fin_x _ _ _ _ _ _ _ _ _ _ h4 b n d)
    (fun d e => Cert.Pre_uniform_finite.Read.fin_w1 _ _ _ _ _ _ _ _ _ _ h5 d e)
    (fun e d => Cert.Pre_uniform_finite.Read.fin_w2 _ _ _ _ _ _ _ _ _ _ h6 e d)
    (fun p k => Cert.Pre_uniform_finite.Read.fin_wg _ _ _ _ _ _ _ _ _ _ h7 p k)

/-- The reference's prototypes are the kernel's. -/
theorem protos (hp : Cert.Pre_KernelIdeal_uniform_finite m) (hs : Same m m' c) :
    (StableHlo.finalContents Cert.ReferenceIdeal.Value.condOps Cert.ReferenceIdeal.Value.preI Cert.ReferenceIdeal.Value.bodyI Cert.ReferenceIdeal.Value.postI 256 m' c
        Cert.ReferenceIdeal.main_v23 : FVec Ideal S1000x5x2048 .f32)
      = (Cert.KernelIdeal.Gen.V5 m (Cert.KernelIdeal.Run.outs m) c Cert.KernelIdeal.main_v10 : FVec Ideal S1000x5x2048 .f32) := by
  obtain ⟨h1, h2, h3, h4, h5, h6, h7⟩ := hp c
  funext y
  obtain ⟨r, n, d, rfl⟩ : ∃ (y0 : Fin 1000) (y1 : Fin 5) (y2 : Fin 2048), y = ix3 y0 y1 y2 := ⟨y 0, y 1, y 2, eq_ix3 y⟩
  refine (Cert.ReferenceIdeal.Val.v23_final m' c (fun j => ?_) r n d).trans (Eq.trans ?_ (Cert.KernelIdeal.Val.v10_apply m c r n d).symm)
  · rw [hs.t]
    exact Cert.Pre_uniform_finite.Read.range _ _ _ _ _ _ _ _ _ _ h1 j
  · rw [hs.x, hs.t, hs.p]
    exact Cert.Alg.proto_eq _ (fun k j => Cert.KernelIdeal.Val.aX m c (ix3 j k d)) (fun k => Cert.KernelIdeal.Val.aP m c (ix3 r k d)) r.val n
      (fun k j => Cert.Pre_uniform_finite.Read.fin_x _ _ _ _ _ _ _ _ _ _ h4 j k d)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Ref.Run
public import proofs.«01_k».proof.Proof.Val.Equal
public import Idealize.ShloMosaic.Adequacy
public import Idealize.ShloMosaic.Init

@[expose] public section

noncomputable section

namespace Cert.Proof

open Idealize.ShloMosaic Idealize.ShloMosaic.TcCoe Idealize.SL.Sem

/-- Under the precondition the kernel and the reference, run on the same arguments, end with the same predictions and the
    same prototypes, and leave their arguments as launched. -/
theorem algebraic : Cert.algebraic_KernelIdeal_ReferenceIdeal_pre_uniform_finite := by
  intro m g m' g' hp hs
  have same : ∀ c, Cert.Equal.Same m m' c := fun c => by
    obtain ⟨h0, h1, h2, h3, h4, h5, h6, h7, h8, h9⟩ := hs c
    exact ⟨h0, h1, h2, h3, h4, h5, h6, h7, h8, h9⟩
  refine ⟨fun c => Cert.KernelIdeal.Gen.V5 m (Cert.KernelIdeal.Run.outs m) c Cert.KernelIdeal.main_v9, fun c => Cert.KernelIdeal.Gen.V5 m (Cert.KernelIdeal.Run.outs m) c Cert.KernelIdeal.main_v10, ?_, ?_⟩
  · exact (θ_run _ _ _).mono (fun r h c => ⟨h.1 c _ (Cert.KernelIdeal.Run.mem_uc Cert.KernelIdeal.main_v9 (by decide)),
      h.1 c _ (Cert.KernelIdeal.Run.mem_uc Cert.KernelIdeal.main_v10 (by decide)), Cert.KernelIdeal.Run.kept_of m c r (h.1 c)⟩) (Cert.KernelIdeal.Run.run m g)
  · exact (θ_run _ _ _).mono (fun r h c => ⟨(h c Cert.ReferenceIdeal.main_v14 rfl).trans (Cert.Equal.preds m m' c hp (same c)),
      (h c Cert.ReferenceIdeal.main_v23 rfl).trans (Cert.Equal.protos m m' c hp (same c)), Cert.ReferenceIdeal.Ref.kept_of m' c r (h c)⟩) (Cert.ReferenceIdeal.Value.run_fold m' g')

/-- Everything claimed. -/
theorem claim : Cert.Claim := ⟨Cert.Kernel.Gen.facts, Cert.KernelIdeal.Gen.facts, Cert.ReferenceIdeal.Gen.facts, Cert.Pre_uniform_finite.Read.facts,
  fun m ρ _ => Cert.Kernel.Run.quiescent m ρ,
  fun m ρ _ => Cert.KernelIdeal.Run.quiescent m ρ,
  fun m ρ _ => Cert.KernelIdeal.Run.quiescent m ρ,
  fun m ρ _ => Cert.ReferenceIdeal.Ref.quiescent m ρ,
  fun m ρ _ => Cert.ReferenceIdeal.Ref.quiescent m ρ,
  trivial,
  algebraic⟩

end Cert.Proof

end
